-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)) (v3 : (c : Dev Cert.KernelIdeal.nD) → Buf (Elt Ideal) ((c.tc : Thread Cert.KernelIdeal.nD Cert.KernelIdeal.τ).loc Cert.KernelIdeal.main_v21_3)) (v4 : (c : Dev Cert.KernelIdeal.nD) → Buf (Elt Ideal) ((c.tc : Thread Cert.KernelIdeal.nD Cert.KernelIdeal.τ).loc Cert.KernelIdeal.main_v21_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_v21_3) = v3 c
          ∧ r.2.mem ((c.tc : Thread Cert.KernelIdeal.nD Cert.KernelIdeal.τ).loc Cert.KernelIdeal.main_v21_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v87) = v3 c
          ∧ r.2.mem ((c.tc : Thread Cert.ReferenceIdeal.nD Cert.ReferenceIdeal.τ).loc Cert.ReferenceIdeal.main_v88) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4x4096 : Shape := ⟨3, ![16, 4, 4096]⟩
abbrev S16x4x8x128 : Shape := ⟨4, ![16, 4, 8, 128]⟩
abbrev S16x4096x8x128 : Shape := ⟨4, ![16, 4096, 8, 128]⟩
abbrev S16x4096x8 : Shape := ⟨3, ![16, 4096, 8]⟩
abbrev S16x4x2x4x4x128 : Shape := ⟨6, ![16, 4, 2, 4, 4, 128]⟩
abbrev S16x2x4x4x4x128 : Shape := ⟨6, ![16, 2, 4, 4, 4, 128]⟩
abbrev S16x128x128 : Shape := ⟨3, ![16, 128, 128]⟩
abbrev S4x4 : Shape := ⟨2, ![4, 4]⟩
abbrev S_ : Shape := ⟨0, ![]⟩
abbrev S16x2x4x4x4x128x1 : Shape := ⟨7, ![16, 2, 4, 4, 4, 128, 1]⟩
abbrev S1x1x1x4x1x1x4 : Shape := ⟨7, ![1, 1, 1, 4, 1, 1, 4]⟩
abbrev S16x2x4x4x4x128x4 : Shape := ⟨7, ![16, 2, 4, 4, 4, 128, 4]⟩
abbrev S16x2x64x512 : Shape := ⟨4, ![16, 2, 64, 512]⟩
abbrev S16x32x128 : Shape := ⟨3, ![16, 32, 128]⟩
abbrev S16x32768x128 : Shape := ⟨3, ![16, 32768, 128]⟩
abbrev S16x8x4096 : Shape := ⟨3, ![16, 8, 4096]⟩
abbrev S16x4x32x128 : Shape := ⟨4, ![16, 4, 32, 128]⟩
abbrev S16x32x1 : Shape := ⟨3, ![16, 32, 1]⟩
abbrev S1x2x64x512 : Shape := ⟨4, ![1, 2, 64, 512]⟩
abbrev S1x128x128 : Shape := ⟨3, ![1, 128, 128]⟩
abbrev S1x32x128 : Shape := ⟨3, ![1, 32, 128]⟩
abbrev S1x32768x128 : Shape := ⟨3, ![1, 32768, 128]⟩
abbrev S1x8x4096 : Shape := ⟨3, ![1, 8, 4096]⟩
abbrev S1x4x32x128 : Shape := ⟨4, ![1, 4, 32, 128]⟩
abbrev S1x32x1 : Shape := ⟨3, ![1, 32, 1]⟩
abbrev S128x4096 : Shape := ⟨2, ![128, 4096]⟩
abbrev S64x512 : Shape := ⟨2, ![64, 512]⟩
abbrev S32x128 : Shape := ⟨2, ![32, 128]⟩
abbrev S32 : Shape := ⟨1, ![32]⟩
abbrev S32x1 : Shape := ⟨2, ![32, 1]⟩
abbrev S128x128 : Shape := ⟨2, ![128, 128]⟩
abbrev S128x32 : Shape := ⟨2, ![128, 32]⟩
abbrev S128x512 : Shape := ⟨2, ![128, 512]⟩
abbrev S32x512 : Shape := ⟨2, ![32, 512]⟩
abbrev S1x1x64x512 : Shape := ⟨4, ![1, 1, 64, 512]⟩
abbrev S64x32 : Shape := ⟨2, ![64, 32]⟩
abbrev S64 : Shape := ⟨1, ![64]⟩
abbrev S64x1 : Shape := ⟨2, ![64, 1]⟩
abbrev S1x4096x128 : Shape := ⟨3, ![1, 4096, 128]⟩
abbrev S4096x128 : Shape := ⟨2, ![4096, 128]⟩
abbrev S1024x128 : Shape := ⟨2, ![1024, 128]⟩
abbrev S512x2x128 : Shape := ⟨3, ![512, 2, 128]⟩
abbrev S512x1x128 : Shape := ⟨3, ![512, 1, 128]⟩
abbrev S512x128 : Shape := ⟨2, ![512, 128]⟩
abbrev S512x512 : Shape := ⟨2, ![512, 512]⟩
abbrev S1x4x512 : Shape := ⟨3, ![1, 4, 512]⟩
abbrev S4x512 : Shape := ⟨2, ![4, 512]⟩
abbrev S16x512 : Shape := ⟨2, ![16, 512]⟩
abbrev S32x16x512 : Shape := ⟨3, ![32, 16, 512]⟩
abbrev S1x16x512 : Shape := ⟨3, ![1, 16, 512]⟩
abbrev S64x128 : Shape := ⟨2, ![64, 128]⟩
abbrev S4x16x128 : Shape := ⟨3, ![4, 16, 128]⟩
abbrev S1x4x16x128 : Shape := ⟨4, ![1, 4, 16, 128]⟩

abbrev nBuf : Space → Nat
  | .hbm => 34
  | .vmem => 28
  | .smem => 0
  | _ => 0

abbrev bufTy : (tb : Table) → Fin (tcTables nBuf tb) → BufTy
  | .hbm, ⟨0, _⟩ => ⟨S16x4x4096, .bf16⟩
  | .hbm, ⟨1, _⟩ => ⟨S16x4x8x128, .bf16⟩
  | .hbm, ⟨2, _⟩ => ⟨S16x4x8x128, .bf16⟩
  | .hbm, ⟨3, _⟩ => ⟨S16x4096x8x128, .i8⟩
  | .hbm, ⟨4, _⟩ => ⟨S16x4096x8, .f32⟩
  | .hbm, ⟨5, _⟩ => ⟨S16x4096x8x128, .i8⟩
  | .hbm, ⟨6, _⟩ => ⟨S16x4096x8, .f32⟩
  | .hbm, ⟨7, _⟩ => ⟨S16x4x2x4x4x128, .bf16⟩
  | .hbm, ⟨8, _⟩ => ⟨S16x2x4x4x4x128, .bf16⟩
  | .hbm, ⟨9, _⟩ => ⟨S16x128x128, .bf16⟩
  | .hbm, ⟨10, _⟩ => ⟨S4x4, .i32⟩
  | .hbm, ⟨11, _⟩ => ⟨S4x4, .i32⟩
  | .hbm, ⟨12, _⟩ => ⟨S_, .i32⟩
  | .hbm, ⟨13, _⟩ => ⟨S4x4, .i32⟩
  | .hbm, ⟨14, _⟩ => ⟨S4x4, .i32⟩
  | .hbm, ⟨15, _⟩ => ⟨S4x4, .i1⟩
  | .hbm, ⟨16, _⟩ => ⟨S4x4, .bf16⟩
  | .hbm, ⟨17, _⟩ => ⟨S16x2x4x4x4x128x1, .bf16⟩
  | .hbm, ⟨18, _⟩ => ⟨S1x1x1x4x1x1x4, .bf16⟩
  | .hbm, ⟨19, _⟩ => ⟨S16x2x4x4x4x128x4, .bf16⟩
  | .hbm, ⟨20, _⟩ => ⟨S16x2x4x4x4x128x4, .bf16⟩
  | .hbm, ⟨21, _⟩ => ⟨S16x2x4x4x4x128x4, .bf16⟩
  | .hbm, ⟨22, _⟩ => ⟨S16x2x64x512, .bf16⟩
  | .hbm, ⟨23, _⟩ => ⟨S16x32x128, .bf16⟩
  | .hbm, ⟨24, _⟩ => ⟨S16x32x128, .bf16⟩
  | .hbm, ⟨25, _⟩ => ⟨S16x32768x128, .i8⟩
  | .hbm, ⟨26, _⟩ => ⟨S16x8x4096, .f32⟩
  | .hbm, ⟨27, _⟩ => ⟨S16x32768x128, .i8⟩
  | .hbm, ⟨28, _⟩ => ⟨S16x8x4096, .f32⟩
  | .hbm, ⟨29, _⟩ => ⟨S16x4x32x128, .bf16⟩
  | .hbm, ⟨30, _⟩ => ⟨S16x32x128, .i8⟩
  | .hbm, ⟨31, _⟩ => ⟨S16x32x1, .f32⟩
  | .hbm, ⟨32, _⟩ => ⟨S16x32x128, .i8⟩
  | .hbm, ⟨33, _⟩ => ⟨S16x32x1, .f32⟩
  | .local _ .vmem, ⟨0, _⟩ => ⟨S1x2x64x512, .bf16⟩
  | .local _ .vmem, ⟨1, _⟩ => ⟨S1x2x64x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x32x128, .bf16⟩
  | .local _ .vmem, ⟨5, _⟩ => ⟨S1x32x128, .bf16⟩
  | .local _ .vmem, ⟨6, _⟩ => ⟨S1x32x128, .bf16⟩
  | .local _ .vmem, ⟨7, _⟩ => ⟨S1x32x128, .bf16⟩
  | .local _ .vmem, ⟨8, _⟩ => ⟨S1x32768x128, .i8⟩
  | .local _ .vmem, ⟨9, _⟩ => ⟨S1x32768x128, .i8⟩
  | .local _ .vmem, ⟨10, _⟩ => ⟨S1x8x4096, .f32⟩
  | .local _ .vmem, ⟨11, _⟩ => ⟨S1x8x4096, .f32⟩
  | .local _ .vmem, ⟨12, _⟩ => ⟨S1x32768x128, .i8⟩
  | .local _ .vmem, ⟨13, _⟩ => ⟨S1x32768x128, .i8⟩
  | .local _ .vmem, ⟨14, _⟩ => ⟨S1x8x4096, .f32⟩
  | .local _ .vmem, ⟨15, _⟩ => ⟨S1x8x4096, .f32⟩
  | .local _ .vmem, ⟨16, _⟩ => ⟨S1x4x32x128, .bf16⟩
  | .local _ .vmem, ⟨17, _⟩ => ⟨S1x4x32x128, .bf16⟩
  | .local _ .vmem, ⟨18, _⟩ => ⟨S1x32x128, .i8⟩
  | .local _ .vmem, ⟨19, _⟩ => ⟨S1x32x128, .i8⟩
  | .local _ .vmem, ⟨20, _⟩ => ⟨S1x32x1, .f32⟩
  | .local _ .vmem, ⟨21, _⟩ => ⟨S1x32x1, .f32⟩
  | .local _ .vmem, ⟨22, _⟩ => ⟨S1x32x128, .i8⟩
  | .local _ .vmem, ⟨23, _⟩ => ⟨S1x32x128, .i8⟩
  | .local _ .vmem, ⟨24, _⟩ => ⟨S1x32x1, .f32⟩
  | .local _ .vmem, ⟨25, _⟩ => ⟨S1x32x1, .f32⟩
  | .local _ .vmem, ⟨26, _⟩ => ⟨S128x4096, .f32⟩
  | .local _ .vmem, ⟨27, _⟩ => ⟨S64x512, .f32⟩
  | _, _ => ⟨S16x4x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev main_v21_3 : Ref sig .tc := ⟨.hbm, 32, rfl⟩
abbrev main_v21_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_88 : BitVec 32 := 0#32
  let c8_i32_89 : BitVec 32 := 8#32
  let v255 : BitVec 32 := Scalar.addi c0_i32_88 c8_i32_89
  let c1_i32_90 : BitVec 32 := 1#32
  ⟨c0_i32_88, v255, c1_i32_90⟩
def k0_mult1 (k0_t1 : Fin k0_t1_loop.trips) : BitVec 32 :=
  let c0_i32_88 : BitVec 32 := 0#32
  let c1_i32_90 : BitVec 32 := 1#32
  let arg16 : BitVec 32 := Scf.iv c0_i32_88 c1_i32_90 k0_t1
  let c512_i32 : BitVec 32 := 512#32
  let v428 : BitVec 32 := Scalar.muli arg16 c512_i32
  v428
def k0_off1 (k0_t1 : Fin k0_t1_loop.trips) : Fin 3 → Nat :=
  let c0_170 : Index := 0#32
  let c0_i32_88 : BitVec 32 := 0#32
  let c1_i32_90 : BitVec 32 := 1#32
  let arg16 : BitVec 32 := Scf.iv c0_i32_88 c1_i32_90 k0_t1
  let c512_i32 : BitVec 32 := 512#32
  let v428 : BitVec 32 := Scalar.muli arg16 c512_i32
  let v429 : BitVec 32 := v428
  let c8_i32_169 : BitVec 32 := 8#32
  let v430 : BitVec 32 := Scalar.muli v429 c8_i32_169
  let v431 : Index := Scalar.indexCast v430
  let c0_171 : Index := 0#32
  ![0, v431.toNat, 0]
def k0_off2 (k0_t1 : Fin k0_t1_loop.trips) : Fin 3 → Nat :=
  let c0_172 : Index := 0#32
  let c0_173 : Index := 0#32
  let c0_i32_88 : BitVec 32 := 0#32
  let c1_i32_90 : BitVec 32 := 1#32
  let arg16 : BitVec 32 := Scf.iv c0_i32_88 c1_i32_90 k0_t1
  let c512_i32 : BitVec 32 := 512#32
  let v428 : BitVec 32 := Scalar.muli arg16 c512_i32
  let v429 : BitVec 32 := v428
  let v440 : Index := Scalar.indexCast v429
  ![0, 0, v440.toNat]
def k0_off3 (k0_t1 : Fin k0_t1_loop.trips) : Fin 2 → Nat :=
  let c0_176 : Index := 0#32
  let c0_i32_88 : BitVec 32 := 0#32
  let c1_i32_90 : BitVec 32 := 1#32
  let arg16 : BitVec 32 := Scf.iv c0_i32_88 c1_i32_90 k0_t1
  let c512_i32 : BitVec 32 := 512#32
  let v428 : BitVec 32 := Scalar.muli arg16 c512_i32
  let v429 : BitVec 32 := v428
  let v454 : Index := Scalar.indexCast v429
  ![0, v454.toNat]
@[reducible] def k0_t2_loop : Scf.Loop 32 :=
  let c0_i32_96 : BitVec 32 := 0#32
  let c8_i32_97 : BitVec 32 := 8#32
  let v266 : BitVec 32 := Scalar.addi c0_i32_96 c8_i32_97
  let c1_i32_98 : BitVec 32 := 1#32
  ⟨c0_i32_96, v266, c1_i32_98⟩
def k0_mult2 (k0_t2 : Fin k0_t2_loop.trips) : BitVec 32 :=
  let c0_i32_96 : BitVec 32 := 0#32
  let c1_i32_98 : BitVec 32 := 1#32
  let arg16 : BitVec 32 := Scf.iv c0_i32_96 c1_i32_98 k0_t2
  let c512_i32 : BitVec 32 := 512#32
  let v428 : BitVec 32 := Scalar.muli arg16 c512_i32
  v428
def k0_off4 (k0_t2 : Fin k0_t2_loop.trips) : Fin 2 → Nat :=
  let c0_169 : Index := 0#32
  let c0_i32_96 : BitVec 32 := 0#32
  let c1_i32_98 : BitVec 32 := 1#32
  let arg16 : BitVec 32 := Scf.iv c0_i32_96 c1_i32_98 k0_t2
  let c512_i32 : BitVec 32 := 512#32
  let v428 : BitVec 32 := Scalar.muli arg16 c512_i32
  let v429 : BitVec 32 := v428
  let v430 : Index := Scalar.indexCast v429
  ![0, v430.toNat]
def k0_off5 (k0_t2 : Fin k0_t2_loop.trips) : Fin 3 → Nat :=
  let c0_171 : Index := 0#32
  let c0_i32_96 : BitVec 32 := 0#32
  let c1_i32_98 : BitVec 32 := 1#32
  let arg16 : BitVec 32 := Scf.iv c0_i32_96 c1_i32_98 k0_t2
  let c512_i32 : BitVec 32 := 512#32
  let v428 : BitVec 32 := Scalar.muli arg16 c512_i32
  let v429 : BitVec 32 := v428
  let c8_i32_170 : BitVec 32 := 8#32
  let v435 : BitVec 32 := Scalar.muli v429 c8_i32_170
  let v436 : Index := Scalar.indexCast v435
  let c0_172 : Index := 0#32
  ![0, v436.toNat, 0]
def k0_off6 (k0_t2 : Fin k0_t2_loop.trips) : Fin 3 → Nat :=
  let c0_173 : Index := 0#32
  let c0_174 : Index := 0#32
  let c0_i32_96 : BitVec 32 := 0#32
  let c1_i32_98 : BitVec 32 := 1#32
  let arg16 : BitVec 32 := Scf.iv c0_i32_96 c1_i32_98 k0_t2
  let c512_i32 : BitVec 32 := 512#32
  let v428 : BitVec 32 := Scalar.muli arg16 c512_i32
  let v429 : BitVec 32 := v428
  let v445 : Index := Scalar.indexCast v429
  ![0, 0, v445.toNat]
@[reducible] def k0_t3_loop : Scf.Loop 32 :=
  let c0_i32_131 : BitVec 32 := 0#32
  let c8_i32_132 : BitVec 32 := 8#32
  let v344 : BitVec 32 := Scalar.addi c0_i32_131 c8_i32_132
  let c1_i32_133 : BitVec 32 := 1#32
  ⟨c0_i32_131, v344, c1_i32_133⟩
def k0_mult3 (k0_t3 : Fin k0_t3_loop.trips) : BitVec 32 :=
  let c0_i32_131 : BitVec 32 := 0#32
  let c1_i32_133 : BitVec 32 := 1#32
  let arg16 : BitVec 32 := Scf.iv c0_i32_131 c1_i32_133 k0_t3
  let c512_i32 : BitVec 32 := 512#32
  let v428 : BitVec 32 := Scalar.muli arg16 c512_i32
  v428
def k0_off7 (k0_t3 : Fin k0_t3_loop.trips) : Fin 3 → Nat :=
  let c0_170 : Index := 0#32
  let c0_i32_131 : BitVec 32 := 0#32
  let c1_i32_133 : BitVec 32 := 1#32
  let arg16 : BitVec 32 := Scf.iv c0_i32_131 c1_i32_133 k0_t3
  let c512_i32 : BitVec 32 := 512#32
  let v428 : BitVec 32 := Scalar.muli arg16 c512_i32
  let v429 : BitVec 32 := v428
  let c8_i32_169 : BitVec 32 := 8#32
  let v430 : BitVec 32 := Scalar.muli v429 c8_i32_169
  let v431 : Index := Scalar.indexCast v430
  let c0_171 : Index := 0#32
  ![0, v431.toNat, 0]
def k0_off8 (k0_t3 : Fin k0_t3_loop.trips) : Fin 3 → Nat :=
  let c0_172 : Index := 0#32
  let c4 : Index := 4#32
  let c0_i32_131 : BitVec 32 := 0#32
  let c1_i32_133 : BitVec 32 := 1#32
  let arg16 : BitVec 32 := Scf.iv c0_i32_131 c1_i32_133 k0_t3
  let c512_i32 : BitVec 32 := 512#32
  let v428 : BitVec 32 := Scalar.muli arg16 c512_i32
  let v429 : BitVec 32 := v428
  let v440 : Index := Scalar.indexCast v429
  ![0, 4, v440.toNat]
def k0_off9 (k0_t3 : Fin k0_t3_loop.trips) : Fin 2 → Nat :=
  let c64 : Index := 64#32
  let c0_i32_131 : BitVec 32 := 0#32
  let c1_i32_133 : BitVec 32 := 1#32
  let arg16 : BitVec 32 := Scf.iv c0_i32_131 c1_i32_133 k0_t3
  let c512_i32 : BitVec 32 := 512#32
  let v428 : BitVec 32 := Scalar.muli arg16 c512_i32
  let v429 : BitVec 32 := v428
  let v454 : Index := Scalar.indexCast v429
  ![64, v454.toNat]
@[reducible] def k0_t4_loop : Scf.Loop 32 :=
  let c0_i32_139 : BitVec 32 := 0#32
  let c8_i32_140 : BitVec 32 := 8#32
  let v355 : BitVec 32 := Scalar.addi c0_i32_139 c8_i32_140
  let c1_i32_141 : BitVec 32 := 1#32
  ⟨c0_i32_139, v355, c1_i32_141⟩
def k0_mult4 (k0_t4 : Fin k0_t4_loop.trips) : BitVec 32 :=
  let c0_i32_139 : BitVec 32 := 0#32
  let c1_i32_141 : BitVec 32 := 1#32
  let arg16 : BitVec 32 := Scf.iv c0_i32_139 c1_i32_141 k0_t4
  let c512_i32 : BitVec 32 := 512#32
  let v428 : BitVec 32 := Scalar.muli arg16 c512_i32
  v428
def k0_off10 (k0_t4 : Fin k0_t4_loop.trips) : Fin 2 → Nat :=
  let c64 : Index := 64#32
  let c0_i32_139 : BitVec 32 := 0#32
  let c1_i32_141 : BitVec 32 := 1#32
  let arg16 : BitVec 32 := Scf.iv c0_i32_139 c1_i32_141 k0_t4
  let c512_i32 : BitVec 32 := 512#32
  let v428 : BitVec 32 := Scalar.muli arg16 c512_i32
  let v429 : BitVec 32 := v428
  let v430 : Index := Scalar.indexCast v429
  ![64, v430.toNat]
def k0_off11 (k0_t4 : Fin k0_t4_loop.trips) : Fin 3 → Nat :=
  let c0_170 : Index := 0#32
  let c0_i32_139 : BitVec 32 := 0#32
  let c1_i32_141 : BitVec 32 := 1#32
  let arg16 : BitVec 32 := Scf.iv c0_i32_139 c1_i32_141 k0_t4
  let c512_i32 : BitVec 32 := 512#32
  let v428 : BitVec 32 := Scalar.muli arg16 c512_i32
  let v429 : BitVec 32 := v428
  let c8_i32_169 : BitVec 32 := 8#32
  let v435 : BitVec 32 := Scalar.muli v429 c8_i32_169
  let v436 : Index := Scalar.indexCast v435
  let c0_171 : Index := 0#32
  ![0, v436.toNat, 0]
def k0_off12 (k0_t4 : Fin k0_t4_loop.trips) : Fin 3 → Nat :=
  let c0_172 : Index := 0#32
  let c4 : Index := 4#32
  let c0_i32_139 : BitVec 32 := 0#32
  let c1_i32_141 : BitVec 32 := 1#32
  let arg16 : BitVec 32 := Scf.iv c0_i32_139 c1_i32_141 k0_t4
  let c512_i32 : BitVec 32 := 512#32
  let v428 : BitVec 32 := Scalar.muli arg16 c512_i32
  let v429 : BitVec 32 := v428
  let v445 : Index := Scalar.indexCast v429
  ![0, 4, v445.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32768x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32768x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x32x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x32x128 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x32x128 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x32x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S16x4x4096 : Shape := ⟨3, ![16, 4, 4096]⟩
abbrev S16x4x8x128 : Shape := ⟨4, ![16, 4, 8, 128]⟩
abbrev S16x4096x8x128 : Shape := ⟨4, ![16, 4096, 8, 128]⟩
abbrev S16x4096x8 : Shape := ⟨3, ![16, 4096, 8]⟩
abbrev S_ : Shape := ⟨0, ![]⟩
abbrev S16x4x8 : Shape := ⟨3, ![16, 4, 8]⟩
abbrev S16x4x8x1 : Shape := ⟨4, ![16, 4, 8, 1]⟩
abbrev S16x4096x8x1 : Shape := ⟨4, ![16, 4096, 8, 1]⟩
abbrev S16x4100x8x128 : Shape := ⟨4, ![16, 4100, 8, 128]⟩
abbrev S16x4x8x4x128 : Shape := ⟨5, ![16, 4, 8, 4, 128]⟩
abbrev S16x8x4100x4x4 : Shape := ⟨5, ![16, 8, 4100, 4, 4]⟩
abbrev S16x8x4x4x4100 : Shape := ⟨5, ![16, 8, 4, 4, 4100]⟩
abbrev S4x4100 : Shape := ⟨2, ![4, 4100]⟩
abbrev S16x8x4x4 : Shape := ⟨4, ![16, 8, 4, 4]⟩
abbrev S16x8x4x4x1 : Shape := ⟨5, ![16, 8, 4, 4, 1]⟩
abbrev S16x8x4x4x128 : Shape := ⟨5, ![16, 8, 4, 4, 128]⟩
abbrev S16x4x32x128 : Shape := ⟨4, ![16, 4, 32, 128]⟩
abbrev S16x32x128 : Shape := ⟨3, ![16, 32, 128]⟩
abbrev S16x32x1 : Shape := ⟨3, ![16, 32, 1]⟩

abbrev nBuf : Space → Nat
  | .hbm => 130
  | .vmem => 0
  | .smem => 0
  | _ => 0

abbrev hbmTy0_0 (i : Nat) : BufTy := match i % 128 with
  | 0 => ⟨S16x4x4096, .bf16⟩
  | 1 => ⟨S16x4x8x128, .bf16⟩
  | 2 => ⟨S16x4x8x128, .bf16⟩
  | 3 => ⟨S16x4096x8x128, .i8⟩
  | 4 => ⟨S16x4096x8, .f32⟩
  | 5 => ⟨S16x4096x8x128, .i8⟩
  | 6 => ⟨S16x4096x8, .f32⟩
  | 7 => ⟨S16x4x8x128, .f32⟩
  | 8 => ⟨S16x4x8x128, .f32⟩
  | 9 => ⟨S_, .f32⟩
  | 10 => ⟨S16x4x8, .f32⟩
  | 11 => ⟨S_, .f32⟩
  | 12 => ⟨S16x4x8, .f32⟩
  | 13 => ⟨S16x4x8, .i1⟩
  | 14 => ⟨S_, .f32⟩
  | 15 => ⟨S16x4x8, .f32⟩
  | 16 => ⟨S16x4x8, .f32⟩
  | 17 => ⟨S_, .f32⟩
  | 18 => ⟨S_, .f32⟩
  | 19 => ⟨S16x4x8, .f32⟩
  | 20 => ⟨S16x4x8, .f32⟩
  | 21 => ⟨S16x4x8x1, .f32⟩
  | 22 => ⟨S16x4x8x128, .f32⟩
  | 23 => ⟨S16x4x8x128, .f32⟩
  | 24 => ⟨S16x4x8x128, .f32⟩
  | 25 => ⟨S_, .f32⟩
  | 26 => ⟨S_, .f32⟩
  | 27 => ⟨S_, .f32⟩
  | 28 => ⟨S16x4x8x128, .f32⟩
  | 29 => ⟨S16x4x8x128, .f32⟩
  | 30 => ⟨S_, .f32⟩
  | 31 => ⟨S16x4x8x128, .f32⟩
  | 32 => ⟨S16x4x8x128, .f32⟩
  | 33 => ⟨S16x4x8x128, .i32⟩
  | 34 => ⟨S16x4x8x128, .i8⟩
  | 35 => ⟨S16x4x8x128, .f32⟩
  | 36 => ⟨S16x4x8x128, .f32⟩
  | 37 => ⟨S_, .f32⟩
  | 38 => ⟨S16x4x8, .f32⟩
  | 39 => ⟨S_, .f32⟩
  | 40 => ⟨S16x4x8, .f32⟩
  | 41 => ⟨S16x4x8, .i1⟩
  | 42 => ⟨S_, .f32⟩
  | 43 => ⟨S16x4x8, .f32⟩
  | 44 => ⟨S16x4x8, .f32⟩
  | 45 => ⟨S_, .f32⟩
  | 46 => ⟨S_, .f32⟩
  | 47 => ⟨S16x4x8, .f32⟩
  | 48 => ⟨S16x4x8, .f32⟩
  | 49 => ⟨S16x4x8x1, .f32⟩
  | 50 => ⟨S16x4x8x128, .f32⟩
  | 51 => ⟨S16x4x8x128, .f32⟩
  | 52 => ⟨S16x4x8x128, .f32⟩
  | 53 => ⟨S_, .f32⟩
  | 54 => ⟨S_, .f32⟩
  | 55 => ⟨S_, .f32⟩
  | 56 => ⟨S16x4x8x128, .f32⟩
  | 57 => ⟨S16x4x8x128, .f32⟩
  | 58 => ⟨S_, .f32⟩
  | 59 => ⟨S16x4x8x128, .f32⟩
  | 60 => ⟨S16x4x8x128, .f32⟩
  | 61 => ⟨S16x4x8x128, .i32⟩
  | 62 => ⟨S16x4x8x128, .i8⟩
  | 63 => ⟨S16x4096x8x128, .i32⟩
  | 64 => ⟨S16x4096x8x128, .f32⟩
  | 65 => ⟨S16x4096x8x128, .bf16⟩
  | 66 => ⟨S16x4096x8, .bf16⟩
  | 67 => ⟨S16x4096x8x1, .bf16⟩
  | 68 => ⟨S16x4096x8x128, .bf16⟩
  | 69 => ⟨S16x4096x8x128, .bf16⟩
  | 70 => ⟨S16x4x8x128, .i32⟩
  | 71 => ⟨S16x4x8x128, .f32⟩
  | 72 => ⟨S16x4x8x128, .bf16⟩
  | 73 => ⟨S16x4x8, .bf16⟩
  | 74 => ⟨S16x4x8x1, .bf16⟩
  | 75 => ⟨S16x4x8x128, .bf16⟩
  | 76 => ⟨S16x4x8x128, .bf16⟩
  | 77 => ⟨S16x4100x8x128, .bf16⟩
  | 78 => ⟨S16x4096x8x128, .i32⟩
  | 79 => ⟨S16x4096x8x128, .f32⟩
  | 80 => ⟨S16x4096x8x128, .bf16⟩
  | 81 => ⟨S16x4096x8, .bf16⟩
  | 82 => ⟨S16x4096x8x1, .bf16⟩
  | 83 => ⟨S16x4096x8x128, .bf16⟩
  | 84 => ⟨S16x4096x8x128, .bf16⟩
  | 85 => ⟨S16x4x8x128, .i32⟩
  | 86 => ⟨S16x4x8x128, .f32⟩
  | 87 => ⟨S16x4x8x128, .bf16⟩
  | 88 => ⟨S16x4x8, .bf16⟩
  | 89 => ⟨S16x4x8x1, .bf16⟩
  | 90 => ⟨S16x4x8x128, .bf16⟩
  | 91 => ⟨S16x4x8x128, .bf16⟩
  | 92 => ⟨S16x4100x8x128, .bf16⟩
  | 93 => ⟨S16x4x8x4x128, .bf16⟩
  | 94 => ⟨S16x8x4100x4x4, .f32⟩
  | 95 => ⟨S16x8x4x4x4100, .f32⟩
  | 96 => ⟨S_, .f32⟩
  | 97 => ⟨S16x8x4x4x4100, .f32⟩
  | 98 => ⟨S16x8x4x4x4100, .f32⟩
  | 99 => ⟨S4x4100, .i32⟩
  | 100 => ⟨S4x4100, .i32⟩
  | 101 => ⟨S_, .i32⟩
  | 102 => ⟨S4x4100, .i32⟩
  | 103 => ⟨S4x4100, .i32⟩
  | 104 => ⟨S4x4100, .i1⟩
  | 105 => ⟨S_, .f32⟩
  | 106 => ⟨S_, .f32⟩
  | 107 => ⟨S16x8x4x4x4100, .i1⟩
  | 108 => ⟨S16x8x4x4x4100, .f32⟩
  | 109 => ⟨S16x8x4x4x4100, .f32⟩
  | 110 => ⟨S_, .f32⟩
  | 111 => ⟨S16x8x4x4, .f32⟩
  | 112 => ⟨S16x8x4x4x1, .f32⟩
  | 113 => ⟨S16x8x4x4x4100, .f32⟩
  | 114 => ⟨S16x8x4x4x4100, .f32⟩
  | 115 => ⟨S16x8x4x4x4100, .f32⟩
  | 116 => ⟨S_, .f32⟩
  | 117 => ⟨S16x8x4x4, .f32⟩
  | 118 => ⟨S16x8x4x4x1, .f32⟩
  | 119 => ⟨S16x4100x8x128, .f32⟩
  | 120 => ⟨S16x8x4x4x128, .f32⟩
  | 121 => ⟨S16x8x4x4x128, .f32⟩
  | 122 => ⟨S16x8x4x4x128, .f32⟩
  | 123 => ⟨S16x4x8x4x128, .f32⟩
  | 124 => ⟨S16x4x32x128, .f32⟩
  | 125 => ⟨S16x4x32x128, .bf16⟩
  | 126 => ⟨S16x32x128, .i8⟩
  | 127 => ⟨S16x32x1, .f32⟩
  | _ => ⟨S16x4x4096, .bf16⟩

abbrev hbmTy0_1 (i : Nat) : BufTy := match i % 128 with
  | 0 => ⟨S16x32x128, .i8⟩
  | 1 => ⟨S16x32x1, .f32⟩
  | _ => ⟨S16x4x4096, .bf16⟩

abbrev hbmTy (i : Nat) : BufTy := match i / 128 with
  | 0 => hbmTy0_0 i
  | 1 => hbmTy0_1 i
  | _ => ⟨S16x4x4096, .bf16⟩

abbrev bufTy : (tb : Table) → Fin (tcTables nBuf tb) → BufTy
  | .hbm, ⟨i, _⟩ => hbmTy i
  | _, _ => ⟨S16x4x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_cst_4 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_5 : Ref sig .tc := ⟨.hbm, 37, rfl⟩
abbrev main_v17 : Ref sig .tc := ⟨.hbm, 38, rfl⟩
abbrev main_cst_6 : Ref sig .tc := ⟨.hbm, 39, rfl⟩
abbrev main_v18 : Ref sig .tc := ⟨.hbm, 40, rfl⟩
abbrev main_v19 : Ref sig .tc := ⟨.hbm, 41, rfl⟩
abbrev main_cst_7 : Ref sig .tc := ⟨.hbm, 42, rfl⟩
abbrev main_v20 : Ref sig .tc := ⟨.hbm, 43, rfl⟩
abbrev main_v21 : Ref sig .tc := ⟨.hbm, 44, rfl⟩
abbrev main_cst_8 : Ref sig .tc := ⟨.hbm, 45, rfl⟩
abbrev main_call3_v0 : Ref sig .tc := ⟨.hbm, 46, rfl⟩
abbrev main_call3_v1 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_9 : Ref sig .tc := ⟨.hbm, 53, rfl⟩
abbrev main_cst_10 : Ref sig .tc := ⟨.hbm, 54, rfl⟩
abbrev main_call5_v0 : Ref sig .tc := ⟨.hbm, 55, rfl⟩
abbrev main_call5_v1 : Ref sig .tc := ⟨.hbm, 56, rfl⟩
abbrev main_call5_v2 : Ref sig .tc := ⟨.hbm, 57, rfl⟩
abbrev main_call5_v3 : Ref sig .tc := ⟨.hbm, 58, rfl⟩
abbrev main_call5_v4 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_11 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_12 : Ref sig .tc := ⟨.hbm, 105, rfl⟩
abbrev main_call6_v0 : Ref sig .tc := ⟨.hbm, 106, rfl⟩
abbrev main_call6_v1 : Ref sig .tc := ⟨.hbm, 107, rfl⟩
abbrev main_call6_v2 : Ref sig .tc := ⟨.hbm, 108, rfl⟩
abbrev main_v70 : Ref sig .tc := ⟨.hbm, 109, rfl⟩
abbrev main_cst_13 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_14 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩

abbrev nD : Nat := 1
abbrev τ : Topo := Topo.v7x

variable {F : FTy → Type} [FloatOps F]
-- ==== Proof.Kernel.Body.lean ====
/- The run of the kernel's body at one grid point, from any contents of the two scratch buffers. -/
module

public import proofs.«01_k».proof.Proof.Gen.Kernel.Skeleton
public import proofs.«01_k».proof.Proof.Gen.Kernel.Loops
public import proofs.«01_k».proof.Proof.Gen.Kernel.Frame
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kernel body on any staging memrefs: a subtype the run finds -/

/-- One staging buffer of output window 8, through which its contents are stated (`View.read_writes_of_cover`: the
    choice does not matter). -/
abbrev VO0_8 : View sig .tc .vmem S1x4x32x128 .bf16 := (Memref.whole cc0_stg8_0 : Memref sig .tc .vmem S1x4x32x128 .bf16).view
/-- One staging buffer of output window 9, through which its contents are stated (`View.read_writes_of_cover`: the
    choice does not matter). -/
abbrev VO0_9 : View sig .tc .vmem S1x32x128 .i8 := (Memref.whole cc0_stg9_0 : Memref sig .tc .vmem S1x32x128 .i8).view
/-- One staging buffer of output window 10, through which its contents are stated (`View.read_writes_of_cover`: the
    choice does not matter). -/
abbrev VO0_10 : View sig .tc .vmem S1x32x1 .f32 := (Memref.whole cc0_stg10_0 : Memref sig .tc .vmem S1x32x1 .f32).view
/-- One staging buffer of output window 11, through which its contents are stated (`View.read_writes_of_cover`: the
    choice does not matter). -/
abbrev VO0_11 : View sig .tc .vmem S1x32x128 .i8 := (Memref.whole cc0_stg11_0 : Memref sig .tc .vmem S1x32x128 .i8).view
/-- One staging buffer of output window 12, through which its contents are stated (`View.read_writes_of_cover`: the
    choice does not matter). -/
abbrev VO0_12 : View sig .tc .vmem S1x32x1 .f32 := (Memref.whole cc0_stg12_0 : Memref sig .tc .vmem S1x32x1 .f32).view
/-- Each window's current staging memref at point `t`, spelled as the pipeline passes it (`bodyAt0`), and its wholeness. -/
abbrev ms0_0 (t : Fin cfg0.N) : Memref sig .tc .vmem S1x2x64x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32768x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x32768x128 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x4x32x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x32x128 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x32x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x32x128 .i8 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x32x1 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S128x4096 .f32 := Memref.whole cc0_scratch0
abbrev scM0_1 : Memref sig .tc .vmem S64x512 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: the definition's epilogue — `abstractNestedProofs` — walks it past the default budget)
set_option maxHeartbeats 1000000 in
/-- What the body's stores leave in each output's staging buffer, as pieces (last first), with the proof that
    the body runs from whole staging memrefs — the inputs' at `x0` … `x7`, the outputs' at anything, the two
    scratch buffers at the contents `f14` and `f15` — to the inputs' as they were, each output's buffer with its
    pieces written and the scratch buffers at some contents. The pieces may depend on `f14` and `f15`
    (they do not: `Proof.Kernel.Blocks`). -/
noncomputable def kernelRun (c : Dev nD) (i : grid0.Coords) (arg1 : Memref sig .tc .vmem S1x2x64x512 .bf16) (harg1 : arg1.IsWhole) (arg2 : Memref sig .tc .vmem S1x128x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x32768x128 .i8) (harg5 : arg5.IsWhole) (arg6 : Memref sig .tc .vmem S1x8x4096 .f32) (harg6 : arg6.IsWhole) (arg7 : Memref sig .tc .vmem S1x32768x128 .i8) (harg7 : arg7.IsWhole) (arg8 : Memref sig .tc .vmem S1x8x4096 .f32) (harg8 : arg8.IsWhole) (arg9 : Memref sig .tc .vmem S1x4x32x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S128x4096 .f32) (harg14 : arg14.IsWhole) (arg15 : Memref sig .tc .vmem S64x512 .f32) (harg15 : arg15.IsWhole)
    (x0 : Vec F S1x2x64x512 .bf16) (x1 : Vec F S1x128x128 .bf16) (x2 : Vec F S1x32x128 .bf16) (x3 : Vec F S1x32x128 .bf16) (x4 : Vec F S1x32768x128 .i8) (x5 : Vec F S1x8x4096 .f32) (x6 : Vec F S1x32768x128 .i8) (x7 : Vec F S1x8x4096 .f32) (f14 : BufTy.Contents (Elt F) arg14.view.ty) (f15 : BufTy.Contents (Elt F) arg15.view.ty) :
    Σ' (L8 : List (View.Piece (Elt F) S1x4x32x128 .bf16)), Σ' (L9 : List (View.Piece (Elt F) S1x32x128 .i8)), Σ' (L10 : List (View.Piece (Elt F) S1x32x1 .f32)), Σ' (L11 : List (View.Piece (Elt F) S1x32x128 .i8)), { L12 : List (View.Piece (Elt F) S1x32x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} f14) ∗ (arg15.view.loc (c : Thread nD τ) ↦[arg15.view.set]{fullShare} f15)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ d, owns (c : Thread nD τ) arg14 fullShare d) ∗ (∃ d, owns (c : Thread nD τ) arg15 fullShare d)) -∗ K ⟨⟩))
          ⊢ wp frame (wpE (defs₀ (F := F)) Variants.none c none) E (cc0__attention_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0__attention_kernel_eq_skeleton]; unfold cc0__attention_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, HS0, HS1, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]
    · iexists _, _; isplitr; swap; · iexact HS0
      ipureintro; rfl
    iexists _, _; isplitr; swap; · iexact HS1
    ipureintro; rfl

end Cert.Kernel.Gen

end
-- ==== Proof.Kernel.Blocks.lean ====
/- What the kernel's body computes from its input blocks at one grid point, as functions of the blocks alone: the
   eight score tiles and the running maximum of each quad of heads, the accumulated weighted values and the running
   sum of weights, and the block of attention outputs. The run's output pieces are these, whatever the two scratch
   buffers held before. -/
module

public import proofs.«01_k».proof.Proof.Kernel.Body
public import Idealize.ShloMosaic.Lib.Pipeline.Value

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The chunks of the caches -/

/-- The 4096 rows (512 positions of 8 heads) of cached codes that chunk `n` reads. -/
def codesAt (x : Vec F S1x32768x128 .i8) (n : Fin 8) : Vec F S1x4096x128 .i8 :=
  View.ld x (Rect.unit (s := S1x32768x128) (k0_off1 n) S1x4096x128.size (k0_off1_inb n))

/-- The scales of heads 0 to 3 at the 512 positions of chunk `n`. -/
def scalesAt0 (x : Vec F S1x8x4096 .f32) (n : Fin 8) : Vec F S1x4x512 .f32 :=
  View.ld x (Rect.unit (s := S1x8x4096) (k0_off2 n) S1x4x512.size (k0_off2_inb n))

/-- The scales of heads 4 to 7 at the 512 positions of chunk `n`. -/
def scalesAt1 (x : Vec F S1x8x4096 .f32) (n : Fin 8) : Vec F S1x4x512 .f32 :=
  View.ld x (Rect.unit (s := S1x8x4096) (k0_off8 n) S1x4x512.size (k0_off8_inb n))

/-! ## The loops' values -/

/-- Quad 0: the scores of the 64 query rows against the 512 positions of chunk `n`. -/
def score0 (q : FVec F S64x512 .bf16) (x4 : Vec F S1x32768x128 .i8) (x5 : Vec F S1x8x4096 .f32) (n : Fin 8) : FVec F S64x512 .f32 :=
  k0_pay37 q (codesAt x4 n) (scalesAt0 x5 n)

/-- Quad 1: the scores of the 64 query rows against the 512 positions of chunk `n`. -/
def score1 (q : Vec F S1x1x64x512 .bf16) (x4 : Vec F S1x32768x128 .i8) (x5 : Vec F S1x8x4096 .f32) (n : Fin 8) : FVec F S64x512 .f32 :=
  k0_pay53 q (codesAt x4 n) (scalesAt1 x5 n)

/-- Quad 0: the rows' maximum after `n` chunks, from `init`. -/
def max0 (q : FVec F S64x512 .bf16) (x4 : Vec F S1x32768x128 .i8) (x5 : Vec F S1x8x4096 .f32) (init : FVec F S64x1 .f32) : ℕ → FVec F S64x1 .f32
  | 0 => init
  | n + 1 => if h : n < 8 then k0_pay39 q (max0 q x4 x5 init n) (codesAt x4 ⟨n, h⟩) (scalesAt0 x5 ⟨n, h⟩) else max0 q x4 x5 init n

/-- Quad 1: the rows' maximum after `n` chunks, from `init`. -/
def max1 (q : Vec F S1x1x64x512 .bf16) (x4 : Vec F S1x32768x128 .i8) (x5 : Vec F S1x8x4096 .f32) (init : FVec F S64x1 .f32) : ℕ → FVec F S64x1 .f32
  | 0 => init
  | n + 1 => if h : n < 8 then k0_pay55 q (max1 q x4 x5 init n) (codesAt x4 ⟨n, h⟩) (scalesAt1 x5 ⟨n, h⟩) else max1 q x4 x5 init n

/-- Quad 0: the rows' weighted values after `n` chunks of scores `s`, from `init`. -/
def acc0 (mx : FVec F S64x1 .f32) (s : Fin 8 → FVec F S64x512 .f32) (x6 : Vec F S1x32768x128 .i8) (x7 : Vec F S1x8x4096 .f32) (init : FVec F S64x512 .f32) : ℕ → FVec F S64x512 .f32
  | 0 => init
  | n + 1 => if h : n < 8 then k0_pay44 mx (s ⟨n, h⟩) (codesAt x6 ⟨n, h⟩) (scalesAt0 x7 ⟨n, h⟩) (acc0 mx s x6 x7 init n) else acc0 mx s x6 x7 init n

/-- Quad 1: the rows' weighted values after `n` chunks of scores `s`, from `init`. -/
def acc1 (mx : FVec F S64x1 .f32) (s : Fin 8 → FVec F S64x512 .f32) (x6 : Vec F S1x32768x128 .i8) (x7 : Vec F S1x8x4096 .f32) (init : FVec F S64x512 .f32) : ℕ → FVec F S64x512 .f32
  | 0 => init
  | n + 1 => if h : n < 8 then k0_pay60 mx (s ⟨n, h⟩) (codesAt x6 ⟨n, h⟩) (scalesAt1 x7 ⟨n, h⟩) (acc1 mx s x6 x7 init n) else acc1 mx s x6 x7 init n

/-- Quad 0: the rows' sum of weights after `n` chunks of scores `s`, from `init`. -/
def sum0 (mx : FVec F S64x1 .f32) (s : Fin 8 → FVec F S64x512 .f32) (init : FVec F S64x1 .f32) : ℕ → FVec F S64x1 .f32
  | 0 => init
  | n + 1 => if h : n < 8 then k0_pay45 mx (sum0 mx s init n) (s ⟨n, h⟩) else sum0 mx s init n

/-- Quad 1: the rows' sum of weights after `n` chunks of scores `s`, from `init`. -/
def sum1 (mx : FVec F S64x1 .f32) (s : Fin 8 → FVec F S64x512 .f32) (init : FVec F S64x1 .f32) : ℕ → FVec F S64x1 .f32
  | 0 => init
  | n + 1 => if h : n < 8 then k0_pay61 mx (sum1 mx s init n) (s ⟨n, h⟩) else sum1 mx s init n

/-! ## The block's values -/

/-- The masked scores of all 128 query rows against the 32 new (token, head) rows. -/
def newScores (x1 : Vec F S1x128x128 .bf16) (x2 : Vec F S1x32x128 .bf16) : FVec F S128x32 .f32 :=
  k0_pay31 (k0_pay14 (k0_pay3 x2) (k0_pay4 x2) x1)
    (k0_pay26 (k0_pay23 (iota .tc S128x32 32 [0] iota_S128x32_d0_w32)) (k0_pay24 (iota .tc S128x32 32 [0] iota_S128x32_d0_w32)) (k0_pay25 (iota .tc S128x32 32 [0] iota_S128x32_d0_w32)))
    (k0_pay27 (iota .tc S128x32 32 [1] iota_S128x32_d1_w32)
      (k0_pay21 (k0_pay17 (iota .tc S128x32 32 [0] iota_S128x32_d0_w32) 64#32 k0_pay15 k0_pay16 0#32) (k0_pay18 (iota .tc S128x32 32 [0] iota_S128x32_d0_w32)) 4#32
        (k0_pay19 (iota .tc S128x32 32 [0] iota_S128x32_d0_w32)) (k0_pay20 (iota .tc S128x32 32 [0] iota_S128x32_d0_w32)) 1#32 0#1))
    (k0_pay28 (iota .tc S128x32 32 [1] iota_S128x32_d1_w32)) (k0_pay29 (iota .tc S128x32 32 [1] iota_S128x32_d1_w32)) k0_pay30

/-- The 32 new value rows, each column repeated for the four heads of a quad. -/
def newValues (x3 : Vec F S1x32x128 .bf16) : FVec F S32x512 .f32 := k0_pay33 (k0_pay13 (k0_pay6 x3) (k0_pay7 x3))

/-- Quad 0's query rows, -/
def query0 (x0 : Vec F S1x2x64x512 .bf16) : FVec F S64x512 .bf16 :=
  k0_pay34 (View.ld x0 (Rect.unit (s := S1x2x64x512) ![0, 0, 0, 0] S1x1x64x512.size inb_S1x2x64x512_S1x1x64x512_0_0_0_0))

/-- and quad 1's. -/
def query1 (x0 : Vec F S1x2x64x512 .bf16) : Vec F S1x1x64x512 .bf16 :=
  View.ld x0 (Rect.unit (s := S1x2x64x512) ![0, 1, 0, 0] S1x1x64x512.size inb_S1x2x64x512_S1x1x64x512_0_1_0_0)

/-- Quad 0's rows of the masked new scores, -/
def rows0 (s : FVec F S128x32 .f32) : FVec F S64x32 .f32 := extractStridedSlice S64x32 ![0, 0] s slices_S128x32_o0_0_S64x32

/-- and their maxima. -/
def rowMax0 (s : FVec F S128x32 .f32) : FVec F S64x1 .f32 :=
  shapeCast S64x1 (multiReduction .maximumf [1] S64 (rows0 s) 0xFF800000#32 reduces_S64x32_S64 (.inl rfl) rfl) shapeCasts_S64_S64x1

/-- Quad 0's row maxima over the new and the cached positions. -/
def maxAll0 (x0 : Vec F S1x2x64x512 .bf16) (x1 : Vec F S1x128x128 .bf16) (x2 : Vec F S1x32x128 .bf16) (x4 : Vec F S1x32768x128 .i8) (x5 : Vec F S1x8x4096 .f32) : FVec F S64x1 .f32 :=
  max0 (query0 x0) x4 x5 (rowMax0 (newScores x1 x2)) 8

/-- Quad 1's row maxima over the new and the cached positions. -/
def maxAll1 (x0 : Vec F S1x2x64x512 .bf16) (x1 : Vec F S1x128x128 .bf16) (x2 : Vec F S1x32x128 .bf16) (x4 : Vec F S1x32768x128 .i8) (x5 : Vec F S1x8x4096 .f32) : FVec F S64x1 .f32 :=
  max1 (query1 x0) x4 x5 (k0_pay52 (newScores x1 x2)) 8

/-- Quad 0's row sums of weights. -/
def sumAll0 (x0 : Vec F S1x2x64x512 .bf16) (x1 : Vec F S1x128x128 .bf16) (x2 : Vec F S1x32x128 .bf16) (x4 : Vec F S1x32768x128 .i8) (x5 : Vec F S1x8x4096 .f32) : FVec F S64x1 .f32 :=
  sum0 (maxAll0 x0 x1 x2 x4 x5) (score0 (query0 x0) x4 x5) (k0_pay42 (rows0 (newScores x1 x2)) (maxAll0 x0 x1 x2 x4 x5)) 8

/-- Quad 1's row sums of weights. -/
def sumAll1 (x0 : Vec F S1x2x64x512 .bf16) (x1 : Vec F S1x128x128 .bf16) (x2 : Vec F S1x32x128 .bf16) (x4 : Vec F S1x32768x128 .i8) (x5 : Vec F S1x8x4096 .f32) : FVec F S64x1 .f32 :=
  sum1 (maxAll1 x0 x1 x2 x4 x5) (score1 (query1 x0) x4 x5) (k0_pay58 (newScores x1 x2) (maxAll1 x0 x1 x2 x4 x5)) 8

/-- Quad 0's weighted sums of values. -/
def accAll0 (x0 : Vec F S1x2x64x512 .bf16) (x1 : Vec F S1x128x128 .bf16) (x2 : Vec F S1x32x128 .bf16) (x3 : Vec F S1x32x128 .bf16) (x4 : Vec F S1x32768x128 .i8) (x5 : Vec F S1x8x4096 .f32) (x6 : Vec F S1x32768x128 .i8) (x7 : Vec F S1x8x4096 .f32) : FVec F S64x512 .f32 :=
  acc0 (maxAll0 x0 x1 x2 x4 x5) (score0 (query0 x0) x4 x5) x6 x7 (k0_pay41 (newValues x3) (rows0 (newScores x1 x2)) (maxAll0 x0 x1 x2 x4 x5)) 8

/-- Quad 1's weighted sums of values. -/
def accAll1 (x0 : Vec F S1x2x64x512 .bf16) (x1 : Vec F S1x128x128 .bf16) (x2 : Vec F S1x32x128 .bf16) (x3 : Vec F S1x32x128 .bf16) (x4 : Vec F S1x32768x128 .i8) (x5 : Vec F S1x8x4096 .f32) (x6 : Vec F S1x32768x128 .i8) (x7 : Vec F S1x8x4096 .f32) : FVec F S64x512 .f32 :=
  acc1 (maxAll1 x0 x1 x2 x4 x5) (score1 (query1 x0) x4 x5) x6 x7 (k0_pay57 (newScores x1 x2) (newValues x3) (maxAll1 x0 x1 x2 x4 x5)) 8

/-- The attention outputs of heads 0 to 15, -/
def yBlk0 (x0 : Vec F S1x2x64x512 .bf16) (x1 : Vec F S1x128x128 .bf16) (x2 : Vec F S1x32x128 .bf16) (x3 : Vec F S1x32x128 .bf16) (x4 : Vec F S1x32768x128 .i8) (x5 : Vec F S1x8x4096 .f32) (x6 : Vec F S1x32768x128 .i8) (x7 : Vec F S1x8x4096 .f32) : FVec F S1x4x16x128 .bf16 :=
  k0_pay50 (k0_pay32 (F := F)) (k0_pay46 (sumAll0 x0 x1 x2 x4 x5) (accAll0 x0 x1 x2 x3 x4 x5 x6 x7))
    (iota .tc S64x512 32 [1] iota_S64x512_d1_w32) k0_pay47 4#32 k0_pay48 k0_pay49 0#32

/-- and of heads 16 to 31. -/
def yBlk1 (x0 : Vec F S1x2x64x512 .bf16) (x1 : Vec F S1x128x128 .bf16) (x2 : Vec F S1x32x128 .bf16) (x3 : Vec F S1x32x128 .bf16) (x4 : Vec F S1x32768x128 .i8) (x5 : Vec F S1x8x4096 .f32) (x6 : Vec F S1x32768x128 .i8) (x7 : Vec F S1x8x4096 .f32) : FVec F S1x4x16x128 .bf16 :=
  k0_pay1 (k0_pay32 (F := F)) (k0_pay62 (sumAll1 x0 x1 x2 x4 x5) (accAll1 x0 x1 x2 x3 x4 x5 x6 x7))
    (k0_pay66 16#32 k0_pay63 k0_pay64 k0_pay65 0#1) (k0_pay67 (iota .tc S64x512 32 [1] iota_S64x512_d1_w32))

/-! ## The offsets of the score tiles -/

theorem hz3 : (![0, 0, 0] : Fin 3 → ℕ) = fun _ => 0 := by decide

theorem off3_eq (k : Fin k0_t1_loop.trips) : k0_off3 k = ![0, 512 * k.val] := by revert k; decide +kernel
theorem off9_eq (k : Fin k0_t3_loop.trips) : k0_off9 k = ![64, 512 * k.val] := by revert k; decide +kernel
theorem off4_eq (k : Fin 8) : k0_off4 k = k0_off3 k := rfl
theorem off10_eq (k : Fin 8) : k0_off10 k = k0_off9 k := rfl

section Loops
variable (𝒱 : Variants) (c : Dev nD) (bd : Option 𝒱.V) (i : grid0.Coords) (arg1 : Memref sig .tc .vmem S1x2x64x512 .bf16) (harg1 : arg1.IsWhole) (arg2 : Memref sig .tc .vmem S1x128x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x32768x128 .i8) (harg5 : arg5.IsWhole) (arg6 : Memref sig .tc .vmem S1x8x4096 .f32) (harg6 : arg6.IsWhole) (arg7 : Memref sig .tc .vmem S1x32768x128 .i8) (harg7 : arg7.IsWhole) (arg8 : Memref sig .tc .vmem S1x8x4096 .f32) (harg8 : arg8.IsWhole) (arg9 : Memref sig .tc .vmem S1x4x32x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S128x4096 .f32) (harg14 : arg14.IsWhole) (arg15 : Memref sig .tc .vmem S64x512 .f32) (harg15 : arg15.IsWhole)

/-- One trip of the score loop: what it stores and what it yields. -/
theorem t1_trip (v249 : FVec F S32x512 .f32) (v251 : FVec F S64x512 .bf16) (v252 : FVec F S64x32 .f32) (v254 : FVec F S64x1 .f32) (w0 w1 : BitVec 32) (x4 : Vec F S1x32768x128 .i8) (x5 : Vec F S1x8x4096 .f32) (k : Fin 8) (a : FVec F S64x1 .f32) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 (harg5.unread x4) (harg6.unread x5) k a = [⟨Rect.unit (s := S128x4096) (k0_off3 k) S64x512.size (k0_off3_inb k), score0 v251 x4 x5 k⟩]
    ∧ tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 (harg5.unread x4) (harg6.unread x5) k a = k0_pay39 v251 a (codesAt x4 k) (scalesAt0 x5 k) := by
  have e5 : arg5.view.read (Elt F) (harg5.unread x4) = x4 := harg5.read_unread x4
  have e6 : arg6.view.read (Elt F) (harg6.unread x5) = x5 := harg6.read_unread x5
  constructor
  · unfold tripL_k0_t1 trip_k0_t1; dsimp only
    simp only [View.readAt_eq_ld, e5, e6]
    exact congrArg (fun w => [(⟨_, w⟩ : View.Piece (Elt F) S128x4096 .f32)]) (shapeCast_self _ _)
  · unfold tripR_k0_t1 trip_k0_t1; dsimp only
    simp only [View.readAt_eq_ld, e5, e6]
    rfl

/-- After `n` trips of the score loop: the carried maximum, and every chunk before `n` read back as its scores. -/
theorem t1_state (v249 : FVec F S32x512 .f32) (v251 : FVec F S64x512 .bf16) (v252 : FVec F S64x32 .f32) (v254 : FVec F S64x1 .f32) (w0 w1 : BitVec 32) (x4 : Vec F S1x32768x128 .i8) (x5 : Vec F S1x8x4096 .f32) (init : FVec F S64x1 .f32) (n : ℕ) (hn : n ≤ 8) :
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 (harg5.unread x4) (harg6.unread x5) init n).1 = max0 v251 x4 x5 init n
    ∧ ∀ (f : BufTy.Contents (Elt F) arg14.view.ty) (k : Fin 8), k.val < n →
        arg14.view.readAt (Elt F) (Rect.unit (s := S128x4096) (k0_off4 k) S64x512.size (k0_off4_inb k)).toLoadRect
          (arg14.view.writes (Elt F) f (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 (harg5.unread x4) (harg6.unread x5) init n).2) = score0 v251 x4 x5 k := by
  induction n with
  | zero => exact ⟨rfl, fun f k hk => absurd hk (Nat.not_lt_zero _)⟩
  | succ n ih =>
    have h : n < 8 := hn
    obtain ⟨ih1, ih2⟩ := ih (Nat.le_of_lt h)
    have tr := t1_trip 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 x4 x5 ⟨n, h⟩ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 (harg5.unread x4) (harg6.unread x5) init n).1
    have es := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 (harg5.unread x4) (harg6.unread x5) init ⟨n, h⟩
    rw [show (⟨n, h⟩ : Fin 8).val = n from rfl] at es
    rw [es]
    constructor
    · refine tr.2.trans ?_
      rw [ih1, max0, dif_pos h]
    · intro f k hk
      refine (congrArg (fun L => arg14.view.readAt (Elt F) (Rect.unit (s := S128x4096) (k0_off4 k) S64x512.size (k0_off4_inb k)).toLoadRect
          (arg14.view.writes (Elt F) f (L ++ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 (harg5.unread x4) (harg6.unread x5) init n).2))) tr.1).trans ?_
      funext x
      have hoff : ∀ (k' : Fin 8) (a : Fin 2), k0_off3 k' a = (![0, 512 * k'.val] : Fin 2 → ℕ) a := fun k' a => congrFun (off3_eq k') a
      by_cases e : k.val = n
      · have : k = ⟨n, h⟩ := Fin.ext e
        subst this
        exact View.read_writes_cons_hit arg14.view f _ _ _ x _ rfl
      · have hlt : k.val < n := by omega
        rw [← ih2 f k hlt]
        refine View.read_writes_cons_miss_of_axis arg14.view f _ _ _ 1 (512 * n) 512 (hoff ⟨n, h⟩ 1) rfl rfl (Or.inl ?_)
        show k0_off4 k 1 + 1 * (x 1).val < 512 * n
        have e1 : k0_off4 k 1 = 512 * k.val := hoff k 1
        have e2 : (x 1).val < 512 := (x 1).isLt
        omega

/-- One trip of the value loop: what it stores and what it yields. -/
theorem t2_trip (v249 : FVec F S32x512 .f32) (v251 : FVec F S64x512 .bf16) (v252 : FVec F S64x32 .f32) (v254 : FVec F S64x1 .f32) (w0 w1 : BitVec 32) (v256 : FVec F S64x1 .f32) (x6 : Vec F S1x32768x128 .i8) (x7 : Vec F S1x8x4096 .f32) (s : Fin 8 → FVec F S64x512 .f32)
    (X14 : BufTy.Contents (Elt F) arg14.view.ty)
    (hs : ∀ k : Fin 8, arg14.view.readAt (Elt F) (Rect.unit (s := S128x4096) (k0_off4 k) S64x512.size (k0_off4_inb k)).toLoadRect X14 = s k)
    (k : Fin 8) (a : FVec F S64x1 .f32) (g : BufTy.Contents (Elt F) arg15.view.ty) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 v256 (harg7.unread x6) (harg8.unread x7) X14 k a g = [⟨Rect.unit (s := S64x512) ![0, 0] S64x512.size inb_S64x512_S64x512_0_0,
        k0_pay44 v256 (s k) (codesAt x6 k) (scalesAt0 x7 k) (arg15.view.readAt (Elt F) (Rect.unit (s := S64x512) ![0, 0] S64x512.size inb_S64x512_S64x512_0_0).toLoadRect g)⟩]
    ∧ tripR_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 v256 (harg7.unread x6) (harg8.unread x7) X14 k a g = k0_pay45 v256 a (s k) := by
  have e7 : arg7.view.read (Elt F) (harg7.unread x6) = x6 := harg7.read_unread x6
  have e8 : arg8.view.read (Elt F) (harg8.unread x7) = x7 := harg8.read_unread x7
  rw [← hs k]
  constructor
  · unfold tripL_k0_t2 trip_k0_t2; dsimp only
    simp only [View.readAt_eq_ld, e7, e8]
    rfl
  · unfold tripR_k0_t2 trip_k0_t2; dsimp only

/-- After `n` trips of the value loop over the scores `s`: the carried sum of weights, and the accumulator read back. -/
theorem t2_state (v249 : FVec F S32x512 .f32) (v251 : FVec F S64x512 .bf16) (v252 : FVec F S64x32 .f32) (v254 : FVec F S64x1 .f32) (w0 w1 : BitVec 32) (v256 : FVec F S64x1 .f32) (x6 : Vec F S1x32768x128 .i8) (x7 : Vec F S1x8x4096 .f32) (s : Fin 8 → FVec F S64x512 .f32)
    (X14 : BufTy.Contents (Elt F) arg14.view.ty)
    (hs : ∀ k : Fin 8, arg14.view.readAt (Elt F) (Rect.unit (s := S128x4096) (k0_off4 k) S64x512.size (k0_off4_inb k)).toLoadRect X14 = s k)
    (G : BufTy.Contents (Elt F) arg15.view.ty) (a0 : FVec F S64x512 .f32)
    (hG : arg15.view.readAt (Elt F) (Rect.unit (s := S64x512) ![0, 0] S64x512.size inb_S64x512_S64x512_0_0).toLoadRect G = a0)
    (init : FVec F S64x1 .f32) (n : ℕ) (hn : n ≤ 8) :
    (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 v256 (harg7.unread x6) (harg8.unread x7) X14 G init n).1 = sum0 v256 s init n
    ∧ arg15.view.readAt (Elt F) (Rect.unit (s := S64x512) ![0, 0] S64x512.size inb_S64x512_S64x512_0_0).toLoadRect
          (arg15.view.writes (Elt F) G (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 v256 (harg7.unread x6) (harg8.unread x7) X14 G init n).2) = acc0 v256 s x6 x7 a0 n := by
  induction n with
  | zero => exact ⟨rfl, hG⟩
  | succ n ih =>
    have h : n < 8 := hn
    obtain ⟨ih1, ih2⟩ := ih (Nat.le_of_lt h)
    have tr := t2_trip 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 v256 x6 x7 s X14 hs ⟨n, h⟩ (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 v256 (harg7.unread x6) (harg8.unread x7) X14 G init n).1
      (arg15.view.writes (Elt F) G (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 v256 (harg7.unread x6) (harg8.unread x7) X14 G init n).2)
    have es := st_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 v256 (harg7.unread x6) (harg8.unread x7) X14 G init ⟨n, h⟩
    rw [show (⟨n, h⟩ : Fin 8).val = n from rfl] at es
    rw [es]
    constructor
    · refine tr.2.trans ?_
      rw [ih1, sum0, dif_pos h]
    · refine (congrArg (fun L => arg15.view.readAt (Elt F) (Rect.unit (s := S64x512) ![0, 0] S64x512.size inb_S64x512_S64x512_0_0).toLoadRect
          (arg15.view.writes (Elt F) G (L ++ (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 v256 (harg7.unread x6) (harg8.unread x7) X14 G init n).2))) tr.1).trans ?_
      rw [ih2, acc0, dif_pos h]
      funext x
      exact View.read_writes_cons_hit arg15.view G _ _ _ x _ rfl

/-- One trip of the score loop: what it stores and what it yields. -/
theorem t3_trip (v218 : FVec F S128x32 .f32) (v249 : FVec F S32x512 .f32) (v338 : FVec F S1x4x16x128 .bf16) (v339 : Vec F S1x1x64x512 .bf16) (x4 : Vec F S1x32768x128 .i8) (x5 : Vec F S1x8x4096 .f32) (k : Fin 8) (a : FVec F S64x1 .f32) :
    tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v339 (harg5.unread x4) (harg6.unread x5) k a = [⟨Rect.unit (s := S128x4096) (k0_off9 k) S64x512.size (k0_off9_inb k), score1 v339 x4 x5 k⟩]
    ∧ tripR_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v339 (harg5.unread x4) (harg6.unread x5) k a = k0_pay55 v339 a (codesAt x4 k) (scalesAt1 x5 k) := by
  have e5 : arg5.view.read (Elt F) (harg5.unread x4) = x4 := harg5.read_unread x4
  have e6 : arg6.view.read (Elt F) (harg6.unread x5) = x5 := harg6.read_unread x5
  constructor
  · unfold tripL_k0_t3 trip_k0_t3; dsimp only
    simp only [View.readAt_eq_ld, e5, e6]
    exact congrArg (fun w => [(⟨_, w⟩ : View.Piece (Elt F) S128x4096 .f32)]) (shapeCast_self _ _)
  · unfold tripR_k0_t3 trip_k0_t3; dsimp only
    simp only [View.readAt_eq_ld, e5, e6]
    rfl

/-- After `n` trips of the score loop: the carried maximum, and every chunk before `n` read back as its scores. -/
theorem t3_state (v218 : FVec F S128x32 .f32) (v249 : FVec F S32x512 .f32) (v338 : FVec F S1x4x16x128 .bf16) (v339 : Vec F S1x1x64x512 .bf16) (x4 : Vec F S1x32768x128 .i8) (x5 : Vec F S1x8x4096 .f32) (init : FVec F S64x1 .f32) (n : ℕ) (hn : n ≤ 8) :
    (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v339 (harg5.unread x4) (harg6.unread x5) init n).1 = max1 v339 x4 x5 init n
    ∧ ∀ (f : BufTy.Contents (Elt F) arg14.view.ty) (k : Fin 8), k.val < n →
        arg14.view.readAt (Elt F) (Rect.unit (s := S128x4096) (k0_off10 k) S64x512.size (k0_off10_inb k)).toLoadRect
          (arg14.view.writes (Elt F) f (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v339 (harg5.unread x4) (harg6.unread x5) init n).2) = score1 v339 x4 x5 k := by
  induction n with
  | zero => exact ⟨rfl, fun f k hk => absurd hk (Nat.not_lt_zero _)⟩
  | succ n ih =>
    have h : n < 8 := hn
    obtain ⟨ih1, ih2⟩ := ih (Nat.le_of_lt h)
    have tr := t3_trip 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v339 x4 x5 ⟨n, h⟩ (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v339 (harg5.unread x4) (harg6.unread x5) init n).1
    have es := st_k0_t3_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v339 (harg5.unread x4) (harg6.unread x5) init ⟨n, h⟩
    rw [show (⟨n, h⟩ : Fin 8).val = n from rfl] at es
    rw [es]
    constructor
    · refine tr.2.trans ?_
      rw [ih1, max1, dif_pos h]
    · intro f k hk
      refine (congrArg (fun L => arg14.view.readAt (Elt F) (Rect.unit (s := S128x4096) (k0_off10 k) S64x512.size (k0_off10_inb k)).toLoadRect
          (arg14.view.writes (Elt F) f (L ++ (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v339 (harg5.unread x4) (harg6.unread x5) init n).2))) tr.1).trans ?_
      funext x
      have hoff : ∀ (k' : Fin 8) (a : Fin 2), k0_off9 k' a = (![64, 512 * k'.val] : Fin 2 → ℕ) a := fun k' a => congrFun (off9_eq k') a
      by_cases e : k.val = n
      · have : k = ⟨n, h⟩ := Fin.ext e
        subst this
        exact View.read_writes_cons_hit arg14.view f _ _ _ x _ rfl
      · have hlt : k.val < n := by omega
        rw [← ih2 f k hlt]
        refine View.read_writes_cons_miss_of_axis arg14.view f _ _ _ 1 (512 * n) 512 (hoff ⟨n, h⟩ 1) rfl rfl (Or.inl ?_)
        show k0_off10 k 1 + 1 * (x 1).val < 512 * n
        have e1 : k0_off10 k 1 = 512 * k.val := hoff k 1
        have e2 : (x 1).val < 512 := (x 1).isLt
        omega

/-- One trip of the value loop: what it stores and what it yields. -/
theorem t4_trip (v218 : FVec F S128x32 .f32) (v249 : FVec F S32x512 .f32) (v338 : FVec F S1x4x16x128 .bf16) (v345 : FVec F S64x1 .f32) (x6 : Vec F S1x32768x128 .i8) (x7 : Vec F S1x8x4096 .f32) (s : Fin 8 → FVec F S64x512 .f32)
    (X14 : BufTy.Contents (Elt F) arg14.view.ty)
    (hs : ∀ k : Fin 8, arg14.view.readAt (Elt F) (Rect.unit (s := S128x4096) (k0_off10 k) S64x512.size (k0_off10_inb k)).toLoadRect X14 = s k)
    (k : Fin 8) (a : FVec F S64x1 .f32) (g : BufTy.Contents (Elt F) arg15.view.ty) :
    tripL_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v345 (harg7.unread x6) (harg8.unread x7) X14 k a g = [⟨Rect.unit (s := S64x512) ![0, 0] S64x512.size inb_S64x512_S64x512_0_0,
        k0_pay60 v345 (s k) (codesAt x6 k) (scalesAt1 x7 k) (arg15.view.readAt (Elt F) (Rect.unit (s := S64x512) ![0, 0] S64x512.size inb_S64x512_S64x512_0_0).toLoadRect g)⟩]
    ∧ tripR_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v345 (harg7.unread x6) (harg8.unread x7) X14 k a g = k0_pay61 v345 a (s k) := by
  have e7 : arg7.view.read (Elt F) (harg7.unread x6) = x6 := harg7.read_unread x6
  have e8 : arg8.view.read (Elt F) (harg8.unread x7) = x7 := harg8.read_unread x7
  rw [← hs k]
  constructor
  · unfold tripL_k0_t4 trip_k0_t4; dsimp only
    simp only [View.readAt_eq_ld, e7, e8]
    rfl
  · unfold tripR_k0_t4 trip_k0_t4; dsimp only

/-- After `n` trips of the value loop over the scores `s`: the carried sum of weights, and the accumulator read back. -/
theorem t4_state (v218 : FVec F S128x32 .f32) (v249 : FVec F S32x512 .f32) (v338 : FVec F S1x4x16x128 .bf16) (v345 : FVec F S64x1 .f32) (x6 : Vec F S1x32768x128 .i8) (x7 : Vec F S1x8x4096 .f32) (s : Fin 8 → FVec F S64x512 .f32)
    (X14 : BufTy.Contents (Elt F) arg14.view.ty)
    (hs : ∀ k : Fin 8, arg14.view.readAt (Elt F) (Rect.unit (s := S128x4096) (k0_off10 k) S64x512.size (k0_off10_inb k)).toLoadRect X14 = s k)
    (G : BufTy.Contents (Elt F) arg15.view.ty) (a0 : FVec F S64x512 .f32)
    (hG : arg15.view.readAt (Elt F) (Rect.unit (s := S64x512) ![0, 0] S64x512.size inb_S64x512_S64x512_0_0).toLoadRect G = a0)
    (init : FVec F S64x1 .f32) (n : ℕ) (hn : n ≤ 8) :
    (st_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v345 (harg7.unread x6) (harg8.unread x7) X14 G init n).1 = sum1 v345 s init n
    ∧ arg15.view.readAt (Elt F) (Rect.unit (s := S64x512) ![0, 0] S64x512.size inb_S64x512_S64x512_0_0).toLoadRect
          (arg15.view.writes (Elt F) G (st_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v345 (harg7.unread x6) (harg8.unread x7) X14 G init n).2) = acc1 v345 s x6 x7 a0 n := by
  induction n with
  | zero => exact ⟨rfl, hG⟩
  | succ n ih =>
    have h : n < 8 := hn
    obtain ⟨ih1, ih2⟩ := ih (Nat.le_of_lt h)
    have tr := t4_trip 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v345 x6 x7 s X14 hs ⟨n, h⟩ (st_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v345 (harg7.unread x6) (harg8.unread x7) X14 G init n).1
      (arg15.view.writes (Elt F) G (st_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v345 (harg7.unread x6) (harg8.unread x7) X14 G init n).2)
    have es := st_k0_t4_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v345 (harg7.unread x6) (harg8.unread x7) X14 G init ⟨n, h⟩
    rw [show (⟨n, h⟩ : Fin 8).val = n from rfl] at es
    rw [es]
    constructor
    · refine tr.2.trans ?_
      rw [ih1, sum1, dif_pos h]
    · refine (congrArg (fun L => arg15.view.readAt (Elt F) (Rect.unit (s := S64x512) ![0, 0] S64x512.size inb_S64x512_S64x512_0_0).toLoadRect
          (arg15.view.writes (Elt F) G (L ++ (st_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v345 (harg7.unread x6) (harg8.unread x7) X14 G init n).2))) tr.1).trans ?_
      rw [ih2, acc1, dif_pos h]
      funext x
      exact View.read_writes_cons_hit arg15.view G _ _ _ x _ rfl

end Loops

/-! ## The run's words -/

section Words
variable (c : Dev nD) (i : grid0.Coords) (arg1 : Memref sig .tc .vmem S1x2x64x512 .bf16) (harg1 : arg1.IsWhole) (arg2 : Memref sig .tc .vmem S1x128x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x32768x128 .i8) (harg5 : arg5.IsWhole) (arg6 : Memref sig .tc .vmem S1x8x4096 .f32) (harg6 : arg6.IsWhole) (arg7 : Memref sig .tc .vmem S1x32768x128 .i8) (harg7 : arg7.IsWhole) (arg8 : Memref sig .tc .vmem S1x8x4096 .f32) (harg8 : arg8.IsWhole) (arg9 : Memref sig .tc .vmem S1x4x32x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S128x4096 .f32) (harg14 : arg14.IsWhole) (arg15 : Memref sig .tc .vmem S64x512 .f32) (harg15 : arg15.IsWhole) (x0 : Vec F S1x2x64x512 .bf16) (x1 : Vec F S1x128x128 .bf16) (x2 : Vec F S1x32x128 .bf16) (x3 : Vec F S1x32x128 .bf16) (x4 : Vec F S1x32768x128 .i8) (x5 : Vec F S1x8x4096 .f32) (x6 : Vec F S1x32768x128 .i8) (x7 : Vec F S1x8x4096 .f32) (f14 : BufTy.Contents (Elt F) arg14.view.ty) (f15 : BufTy.Contents (Elt F) arg15.view.ty)

theorem r_eq : kernelRun.sl.r c arg3 harg3 x2 = k0_pay3 x2 := by
  have e : arg3.view.read (Elt F) (harg3.unread x2) = x2 := harg3.read_unread x2
  unfold kernelRun.sl.r
  rw [View.readAt_eq_ld, e, View.ld_unit_zero hz3]

theorem r_1_eq : kernelRun.sl.r_1 c arg3 harg3 x2 = k0_pay4 x2 := by
  have e : arg3.view.read (Elt F) (harg3.unread x2) = x2 := harg3.read_unread x2
  unfold kernelRun.sl.r_1
  rw [View.readAt_eq_ld, e, View.ld_unit_zero hz3]

theorem r_2_eq : kernelRun.sl.r_2 c arg4 harg4 x3 = k0_pay6 x3 := by
  have e : arg4.view.read (Elt F) (harg4.unread x3) = x3 := harg4.read_unread x3
  unfold kernelRun.sl.r_2
  rw [View.readAt_eq_ld, e, View.ld_unit_zero hz3]

theorem r_3_eq : kernelRun.sl.r_3 c arg4 harg4 x3 = k0_pay7 x3 := by
  have e : arg4.view.read (Elt F) (harg4.unread x3) = x3 := harg4.read_unread x3
  unfold kernelRun.sl.r_3
  rw [View.readAt_eq_ld, e, View.ld_unit_zero hz3]

theorem r_6_eq : kernelRun.sl.r_6 c arg2 harg2 arg3 harg3 x1 x2 = k0_pay14 (k0_pay3 x2) (k0_pay4 x2) x1 := by
  have e : arg2.view.read (Elt F) (harg2.unread x1) = x1 := harg2.read_unread x1
  unfold kernelRun.sl.r_6
  rw [r_eq, r_1_eq, View.readAt_eq_ld, e, View.ld_unit_zero hz3]

theorem r_9_eq : kernelRun.sl.r_9 c arg2 harg2 arg3 harg3 x1 x2 = newScores x1 x2 := by
  unfold kernelRun.sl.r_9
  rw [r_6_eq]; rfl

theorem r_12_eq : kernelRun.sl.r_12 c arg2 harg2 arg3 harg3 x1 x2 = rows0 (newScores x1 x2) := by
  unfold kernelRun.sl.r_12
  rw [r_6_eq]; rfl

theorem r_13_eq : kernelRun.sl.r_13 c arg2 harg2 arg3 harg3 x1 x2 = rowMax0 (newScores x1 x2) := by
  unfold kernelRun.sl.r_13
  rw [r_6_eq]; rfl

theorem r_10_eq : kernelRun.sl.r_10 c arg4 harg4 x3 = newValues x3 := by
  unfold kernelRun.sl.r_10 kernelRun.sl.r_5
  rw [r_2_eq, r_3_eq]; rfl

theorem r_11_eq : kernelRun.sl.r_11 c arg1 harg1 x0 = query0 x0 := by
  have e : arg1.view.read (Elt F) (harg1.unread x0) = x0 := harg1.read_unread x0
  unfold kernelRun.sl.r_11
  rw [View.readAt_eq_ld, e]; rfl

theorem r_14_eq : kernelRun.sl.r_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 f14
    = k0_pay46 (sumAll0 x0 x1 x2 x4 x5) (accAll0 x0 x1 x2 x3 x4 x5 x6 x7) := by
  have ht1 : Scf.trips k0_t1_loop.lb k0_t1_loop.ub k0_t1_loop.st = 8 := rfl
  have ht2 : Scf.trips k0_t2_loop.lb k0_t2_loop.ub k0_t2_loop.st = 8 := rfl
  have h1 := t1_state Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (newValues x3) (query0 x0) (rows0 (newScores x1 x2)) (rowMax0 (newScores x1 x2)) 0#32 1#32 x4 x5 (rowMax0 (newScores x1 x2)) 8 le_rfl
  have h2 := t2_state Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (newValues x3) (query0 x0) (rows0 (newScores x1 x2)) (rowMax0 (newScores x1 x2)) 0#32 1#32 (maxAll0 x0 x1 x2 x4 x5) x6 x7 (score0 (query0 x0) x4 x5) _ (fun k => h1.2 f14 k k.isLt)
    (arg15.view.writes (Elt F) arg15.view.junk [⟨Rect.unit (s := S64x512) ![0, 0] S64x512.size inb_S64x512_S64x512_0_0, k0_pay41 (newValues x3) (rows0 (newScores x1 x2)) (maxAll0 x0 x1 x2 x4 x5)⟩])
    (k0_pay41 (newValues x3) (rows0 (newScores x1 x2)) (maxAll0 x0 x1 x2 x4 x5))
    (funext fun x => View.read_writes_cons_hit arg15.view _ _ _ _ x _ rfl)
    (k0_pay42 (rows0 (newScores x1 x2)) (maxAll0 x0 x1 x2 x4 x5)) 8 le_rfl
  unfold kernelRun.sl.r_14 kernelRun.sl.v268 kernelRun.sl.HS1_1
  unfold View.readCov
  rw [r_10_eq, r_11_eq, r_12_eq, r_13_eq, ht1]
  have h11 := h1.1
  refine congr (congrArg k0_pay46 ?_) ?_
  · refine Eq.trans ?_ h2.1
    rw [h11]; rfl
  · refine Eq.trans ?_ h2.2
    refine (congrArg _ (View.writes_append arg15.view _ _ _)).trans ?_
    rw [h11]; rfl

theorem r_15_eq : kernelRun.sl.r_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 f14 = yBlk0 x0 x1 x2 x3 x4 x5 x6 x7 := by
  unfold kernelRun.sl.r_15
  rw [r_14_eq]; rfl

theorem q1_eq : arg1.view.readAt (Elt F) (Rect.unit (s := S1x2x64x512) ![0, 1, 0, 0] S1x1x64x512.size inb_S1x2x64x512_S1x1x64x512_0_1_0_0).toLoadRect
    (harg1.unread x0) = query1 x0 := by
  have e : arg1.view.read (Elt F) (harg1.unread x0) = x0 := harg1.read_unread x0
  rw [View.readAt_eq_ld, e]; rfl

theorem r_16_eq : kernelRun.sl.r_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 f14
    = k0_pay62 (sumAll1 x0 x1 x2 x4 x5) (accAll1 x0 x1 x2 x3 x4 x5 x6 x7) := by
  have ht1 : Scf.trips k0_t1_loop.lb k0_t1_loop.ub k0_t1_loop.st = 8 := rfl
  have h3 := t3_state Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (newScores x1 x2) (newValues x3) (yBlk0 x0 x1 x2 x3 x4 x5 x6 x7) (query1 x0) x4 x5 (k0_pay52 (newScores x1 x2)) 8 le_rfl
  have h31 := h3.1
  unfold kernelRun.sl.r_16 kernelRun.sl.v357
  unfold View.readCov
  rw [r_9_eq, r_10_eq, r_15_eq, q1_eq, ht1, h31]
  have h4 := fun X14 hs G hG => t4_state Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (newScores x1 x2) (newValues x3) (yBlk0 x0 x1 x2 x3 x4 x5 x6 x7) (maxAll1 x0 x1 x2 x4 x5) x6 x7 (score1 (query1 x0) x4 x5) X14 hs G
    (k0_pay57 (newScores x1 x2) (newValues x3) (maxAll1 x0 x1 x2 x4 x5)) hG
    (k0_pay58 (newScores x1 x2) (maxAll1 x0 x1 x2 x4 x5)) 8 le_rfl
  have hs14 := fun (f : BufTy.Contents (Elt F) arg14.view.ty) L (k : Fin 8) =>
    (congrArg (arg14.view.readAt (Elt F) (Rect.unit (s := S128x4096) (k0_off10 k) S64x512.size (k0_off10_inb k)).toLoadRect) (View.writes_append arg14.view f _ L)).trans (h3.2 _ k k.isLt)
  refine congr (congrArg k0_pay62 ?_) ?_
  · exact (h4 _ (hs14 f14 _) _ (funext fun x => View.read_writes_cons_hit arg15.view _ _ _ _ x _ rfl)).1
  · refine (congrArg _ (View.writes_append arg15.view _ _ _)).trans ?_
    exact (h4 _ (hs14 f14 _) _ (funext fun x => View.read_writes_cons_hit arg15.view _ _ _ _ x _ rfl)).2

/-- The pieces of the attention outputs that a grid point writes. -/
def yPieces : List (View.Piece (Elt F) S1x4x32x128 .bf16) :=
  [⟨Rect.unit (s := S1x4x32x128) ![0, 0, 16, 0] ![1, 4, 16, 128] inb_S1x4x32x128_S1x4x16x128_0_0_16_0, yBlk1 x0 x1 x2 x3 x4 x5 x6 x7⟩,
   ⟨Rect.unit (s := S1x4x32x128) ![0, 0, 0, 0] ![1, 4, 16, 128] inb_S1x4x32x128_S1x4x16x128_0_0_0_0, yBlk0 x0 x1 x2 x3 x4 x5 x6 x7⟩]

/-- The piece of the new keys' codes (`x` the new keys) that a grid point writes, -/
def kCodePieces (x : Vec F S1x32x128 .bf16) : List (View.Piece (Elt F) S1x32x128 .i8) :=
  [⟨Rect.unit (s := S1x32x128) ![0, 0, 0] S1x32x128.size inb_S1x32x128_S1x32x128_0_0_0, k0_pay9 (k0_pay8 x)⟩]

/-- the piece of the new keys' scales, -/
def kScalePieces (x : Vec F S1x32x128 .bf16) : List (View.Piece (Elt F) S1x32x1 .f32) :=
  [⟨Rect.unit (s := S1x32x1) ![0, 0, 0] S1x32x1.size inb_S1x32x1_S1x32x1_0_0_0, k0_pay11 (k0_pay3 x)⟩]

/-- the piece of the new values' codes (`x` the new values), -/
def vCodePieces (x : Vec F S1x32x128 .bf16) : List (View.Piece (Elt F) S1x32x128 .i8) :=
  [⟨Rect.unit (s := S1x32x128) ![0, 0, 0] S1x32x128.size inb_S1x32x128_S1x32x128_0_0_0, k0_pay10 (k0_pay7 x)⟩]

/-- and the piece of the new values' scales. -/
def vScalePieces (x : Vec F S1x32x128 .bf16) : List (View.Piece (Elt F) S1x32x1 .f32) :=
  [⟨Rect.unit (s := S1x32x1) ![0, 0, 0] S1x32x1.size inb_S1x32x1_S1x32x1_0_0_0, k0_pay12 (k0_pay6 x)⟩]

/-- The run's pieces of the attention outputs, whatever the scratch buffers held. -/
theorem run_y : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 f14 f15).1 = yPieces x0 x1 x2 x3 x4 x5 x6 x7 := by
  unfold kernelRun; dsimp only
  rw [r_15_eq, r_16_eq]; rfl

/-- The run's piece of the new keys' codes, -/
theorem run_kCode : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 f14 f15).2.1 = kCodePieces x2 := by
  have e : arg3.view.read (Elt F) (harg3.unread x2) = x2 := harg3.read_unread x2
  unfold kernelRun; dsimp only
  unfold kernelRun.sl.H9_1 kernelRun.sl.r_4
  rw [View.readAt_eq_ld, e, View.ld_unit_zero hz3]; rfl

/-- of the new keys' scales, -/
theorem run_kScale : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 f14 f15).2.2.1 = kScalePieces x2 := by
  unfold kernelRun; dsimp only
  unfold kernelRun.sl.H10_1
  rw [r_eq]; rfl

/-- of the new values' codes, -/
theorem run_vCode : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 f14 f15).2.2.2.1 = vCodePieces x3 := by
  unfold kernelRun; dsimp only
  unfold kernelRun.sl.H11_1
  rw [r_3_eq]; rfl

/-- and of the new values' scales. -/
theorem run_vScale : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 f14 f15).2.2.2.2.1 = vScalePieces x3 := by
  unfold kernelRun; dsimp only
  unfold kernelRun.sl.H12_1
  rw [r_2_eq]; rfl

end Words

end Cert.Kernel.Gen

end
-- ==== Proof.Kernel.Frame.lean ====
/- The kernel's run: what each grid point leaves in the staging buffers, the proof data of the pipeline, the body's
   obligation at every grid point, and the run of the whole program with the frame it gives. -/
module

public import proofs.«01_k».proof.Proof.Kernel.Blocks
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a grid point leaves in the outputs' buffers -/

section Out
variable (x0 : Vec F S1x2x64x512 .bf16) (x1 : Vec F S1x128x128 .bf16) (x2 : Vec F S1x32x128 .bf16) (x3 : Vec F S1x32x128 .bf16) (x4 : Vec F S1x32768x128 .i8) (x5 : Vec F S1x8x4096 .f32) (x6 : Vec F S1x32768x128 .i8) (x7 : Vec F S1x8x4096 .f32)

/-- The pieces of the attention outputs cover their block, -/
theorem cover_y (y : S1x4x32x128.Idx) : ∃ pc ∈ yPieces x0 x1 x2 x3 x4 x5 x6 x7, y ∈ pc.1.set :=
  View.cover_of_tiledL (yPieces x0 x1 x2 x3 x4 x5 x6 x7) S1x4x16x128.size (by sl_kernel_rfl) y

/-- the new keys' codes', -/
theorem cover_kCode (x : Vec F S1x32x128 .bf16) (y : S1x32x128.Idx) : ∃ pc ∈ kCodePieces x, y ∈ pc.1.set :=
  View.cover_of_tiledL (kCodePieces x) S1x32x128.size (by sl_kernel_rfl) y

/-- the new keys' scales', -/
theorem cover_kScale (x : Vec F S1x32x128 .bf16) (y : S1x32x1.Idx) : ∃ pc ∈ kScalePieces x, y ∈ pc.1.set :=
  View.cover_of_tiledL (kScalePieces x) S1x32x1.size (by sl_kernel_rfl) y

/-- the new values' codes', -/
theorem cover_vCode (x : Vec F S1x32x128 .bf16) (y : S1x32x128.Idx) : ∃ pc ∈ vCodePieces x, y ∈ pc.1.set :=
  View.cover_of_tiledL (vCodePieces x) S1x32x128.size (by sl_kernel_rfl) y

/-- and the new values' scales'. -/
theorem cover_vScale (x : Vec F S1x32x128 .bf16) (y : S1x32x1.Idx) : ∃ pc ∈ vScalePieces x, y ∈ pc.1.set :=
  View.cover_of_tiledL (vScalePieces x) S1x32x1.size (by sl_kernel_rfl) y

/-- The block of attention outputs a grid point leaves, -/
def outY : Vec F S1x4x32x128 .bf16 := VO0_8.read (Elt F) (VO0_8.writes (Elt F) VO0_8.junk (yPieces x0 x1 x2 x3 x4 x5 x6 x7))

/-- the block of new keys' codes, -/
def outKCode (x : Vec F S1x32x128 .bf16) : Vec F S1x32x128 .i8 := VO0_9.read (Elt F) (VO0_9.writes (Elt F) VO0_9.junk (kCodePieces x))

/-- of their scales, -/
def outKScale (x : Vec F S1x32x128 .bf16) : Vec F S1x32x1 .f32 := VO0_10.read (Elt F) (VO0_10.writes (Elt F) VO0_10.junk (kScalePieces x))

/-- of new values' codes, -/
def outVCode (x : Vec F S1x32x128 .bf16) : Vec F S1x32x128 .i8 := VO0_11.read (Elt F) (VO0_11.writes (Elt F) VO0_11.junk (vCodePieces x))

/-- and of their scales. -/
def outVScale (x : Vec F S1x32x128 .bf16) : Vec F S1x32x1 .f32 := VO0_12.read (Elt F) (VO0_12.writes (Elt F) VO0_12.junk (vScalePieces x))

end Out

/-- A whole buffer owned at some value is owned at some contents. -/
theorem owns_elim {sp : Space} {s : Shape} {e : EltTy} (c : Thread nD τ) (mm : Memref sig c.2.kind sp s e) (d : s.Idx → Elt F e) :
    owns c mm fullShare d ⊢ (iprop(∃ f, mm.view.loc c ↦[mm.view.set]{fullShare} f) : sProp 𝕄) := by
  unfold owns
  iintro ⟨%f, -, H⟩
  iexists f; iexact H

/-! ## The pipeline's proof data -/

/-- The proof data of the one pipeline on core `c`: the arrays as the region finds them; after the body at point `t`
    each input's buffer at its block and the outputs' at what the point computes from the blocks; the scratch buffers at
    whatever they hold; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outY (iblk m c 0 t) (iblk m c 1 t) (iblk m c 2 t) (iblk m c 3 t) (iblk m c 4 t) (iblk m c 5 t) (iblk m c 6 t) (iblk m c 7 t)
    | ⟨9, _⟩ => outKCode (iblk m c 2 t)
    | ⟨10, _⟩ => outKScale (iblk m c 2 t)
    | ⟨11, _⟩ => outVCode (iblk m c 3 t)
    | ⟨12, _⟩ => outVScale (iblk m c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outY (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = outKCode (iblk m c 2 t) := by dsimp only [dats]
theorem after0_10 (c : Dev nD) (t : Fin cfg0.N) : (dats m 0 c).after 10 t = outKScale (iblk m c 2 t) := by dsimp only [dats]
theorem after0_11 (c : Dev nD) (t : Fin cfg0.N) : (dats m 0 c).after 11 t = outVCode (iblk m c 3 t) := by dsimp only [dats]
theorem after0_12 (c : Dev nD) (t : Fin cfg0.N) : (dats m 0 c).after 12 t = outVScale (iblk m c 3 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  unfold outY outKCode outKScale outVCode outVScale
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave HS0 := (owns_elim _ _ _) $$ HS0
  ihave HS1 := (owns_elim _) $$ HS1
  icases HS0 with ⟨%f14, HS0⟩
  icases HS1 with ⟨%f15, HS1⟩
  iapply ((kernelRun c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) f14 f15).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  iintro ⟨H0, H1, H2, H3, H4, H5, H6, H7, ⟨%e8, H8⟩, ⟨%e9, H9⟩, ⟨%e10, H10⟩, ⟨%e11, H11⟩, ⟨%e12, H12⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; rw [run_y]; exact View.read_writes_of_cover _ _ _ _ _ (cover_y _ _ _ _ _ _ _ _)
  isplitl [H9]
  · unfold owns; iexists _; isplitr
    swap; · iexact H9
    ipureintro; rw [run_kCode]; exact View.read_writes_of_cover _ _ _ _ _ (cover_kCode _)
  isplitl [H10]
  · unfold owns; iexists _; isplitr
    swap; · iexact H10
    ipureintro; rw [run_kScale]; exact View.read_writes_of_cover _ _ _ _ _ (cover_kScale _)
  isplitl [H11]
  · unfold owns; iexists _; isplitr
    swap; · iexact H11
    ipureintro; rw [run_vCode]; exact View.read_writes_of_cover _ _ _ _ _ (cover_vCode _)
  unfold owns; iexists _; isplitr
  swap; · iexact H12
  ipureintro; rw [run_vScale]; exact View.read_writes_of_cover _ _ _ _ _ (cover_vScale _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The run of the whole program: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame, for any values: every execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Gen

end
-- ==== Proof.KernelIdeal.Body.lean ====
/- The run of the kernel's body at one grid point, from any contents of the two scratch buffers. -/
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kernel body on any staging memrefs: a subtype the run finds -/

/-- One staging buffer of output window 8, through which its contents are stated (`View.read_writes_of_cover`: the
    choice does not matter). -/
abbrev VO0_8 : View sig .tc .vmem S1x4x32x128 .bf16 := (Memref.whole cc0_stg8_0 : Memref sig .tc .vmem S1x4x32x128 .bf16).view
/-- One staging buffer of output window 9, through which its contents are stated (`View.read_writes_of_cover`: the
    choice does not matter). -/
abbrev VO0_9 : View sig .tc .vmem S1x32x128 .i8 := (Memref.whole cc0_stg9_0 : Memref sig .tc .vmem S1x32x128 .i8).view
/-- One staging buffer of output window 10, through which its contents are stated (`View.read_writes_of_cover`: the
    choice does not matter). -/
abbrev VO0_10 : View sig .tc .vmem S1x32x1 .f32 := (Memref.whole cc0_stg10_0 : Memref sig .tc .vmem S1x32x1 .f32).view
/-- One staging buffer of output window 11, through which its contents are stated (`View.read_writes_of_cover`: the
    choice does not matter). -/
abbrev VO0_11 : View sig .tc .vmem S1x32x128 .i8 := (Memref.whole cc0_stg11_0 : Memref sig .tc .vmem S1x32x128 .i8).view
/-- One staging buffer of output window 12, through which its contents are stated (`View.read_writes_of_cover`: the
    choice does not matter). -/
abbrev VO0_12 : View sig .tc .vmem S1x32x1 .f32 := (Memref.whole cc0_stg12_0 : Memref sig .tc .vmem S1x32x1 .f32).view
/-- Each window's current staging memref at point `t`, spelled as the pipeline passes it (`bodyAt0`), and its wholeness. -/
abbrev ms0_0 (t : Fin cfg0.N) : Memref sig .tc .vmem S1x2x64x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32768x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x32768x128 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x4x32x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x32x128 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x32x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x32x128 .i8 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x32x1 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S128x4096 .f32 := Memref.whole cc0_scratch0
abbrev scM0_1 : Memref sig .tc .vmem S64x512 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: the definition's epilogue — `abstractNestedProofs` — walks it past the default budget)
set_option maxHeartbeats 1000000 in
/-- What the body's stores leave in each output's staging buffer, as pieces (last first), with the proof that
    the body runs from whole staging memrefs — the inputs' at `x0` … `x7`, the outputs' at anything, the two
    scratch buffers at the contents `f14` and `f15` — to the inputs' as they were, each output's buffer with its
    pieces written and the scratch buffers at some contents. The pieces may depend on `f14` and `f15`
    (they do not: `Proof.KernelIdeal.Blocks`). -/
noncomputable def kernelRun (c : Dev nD) (i : grid0.Coords) (arg1 : Memref sig .tc .vmem S1x2x64x512 .bf16) (harg1 : arg1.IsWhole) (arg2 : Memref sig .tc .vmem S1x128x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x32768x128 .i8) (harg5 : arg5.IsWhole) (arg6 : Memref sig .tc .vmem S1x8x4096 .f32) (harg6 : arg6.IsWhole) (arg7 : Memref sig .tc .vmem S1x32768x128 .i8) (harg7 : arg7.IsWhole) (arg8 : Memref sig .tc .vmem S1x8x4096 .f32) (harg8 : arg8.IsWhole) (arg9 : Memref sig .tc .vmem S1x4x32x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S128x4096 .f32) (harg14 : arg14.IsWhole) (arg15 : Memref sig .tc .vmem S64x512 .f32) (harg15 : arg15.IsWhole)
    (x0 : Vec F S1x2x64x512 .bf16) (x1 : Vec F S1x128x128 .bf16) (x2 : Vec F S1x32x128 .bf16) (x3 : Vec F S1x32x128 .bf16) (x4 : Vec F S1x32768x128 .i8) (x5 : Vec F S1x8x4096 .f32) (x6 : Vec F S1x32768x128 .i8) (x7 : Vec F S1x8x4096 .f32) (f14 : BufTy.Contents (Elt F) arg14.view.ty) (f15 : BufTy.Contents (Elt F) arg15.view.ty) :
    Σ' (L8 : List (View.Piece (Elt F) S1x4x32x128 .bf16)), Σ' (L9 : List (View.Piece (Elt F) S1x32x128 .i8)), Σ' (L10 : List (View.Piece (Elt F) S1x32x1 .f32)), Σ' (L11 : List (View.Piece (Elt F) S1x32x128 .i8)), { L12 : List (View.Piece (Elt F) S1x32x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} f14) ∗ (arg15.view.loc (c : Thread nD τ) ↦[arg15.view.set]{fullShare} f15)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ d, owns (c : Thread nD τ) arg14 fullShare d) ∗ (∃ d, owns (c : Thread nD τ) arg15 fullShare d)) -∗ K ⟨⟩))
          ⊢ wp frame (wpE (defs₀ (F := F)) Variants.none c none) E (cc0__attention_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0__attention_kernel_eq_skeleton]; unfold cc0__attention_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, HS0, HS1, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]
    · iexists _, _; isplitr; swap; · iexact HS0
      ipureintro; rfl
    iexists _, _; isplitr; swap; · iexact HS1
    ipureintro; rfl

end Cert.KernelIdeal.Gen

end
-- ==== Proof.KernelIdeal.Blocks.lean ====
/- What the kernel's body computes from its input blocks at one grid point, as functions of the blocks alone: the
   eight score tiles and the running maximum of each quad of heads, the accumulated weighted values and the running
   sum of weights, and the block of attention outputs. The run's output pieces are these, whatever the two scratch
   buffers held before. -/
module

public import proofs.«01_k».proof.Proof.KernelIdeal.Body
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The chunks of the caches -/

/-- The 4096 rows (512 positions of 8 heads) of cached codes that chunk `n` reads. -/
def codesAt (x : Vec F S1x32768x128 .i8) (n : Fin 8) : Vec F S1x4096x128 .i8 :=
  View.ld x (Rect.unit (s := S1x32768x128) (k0_off1 n) S1x4096x128.size (k0_off1_inb n))

/-- The scales of heads 0 to 3 at the 512 positions of chunk `n`. -/
def scalesAt0 (x : Vec F S1x8x4096 .f32) (n : Fin 8) : Vec F S1x4x512 .f32 :=
  View.ld x (Rect.unit (s := S1x8x4096) (k0_off2 n) S1x4x512.size (k0_off2_inb n))

/-- The scales of heads 4 to 7 at the 512 positions of chunk `n`. -/
def scalesAt1 (x : Vec F S1x8x4096 .f32) (n : Fin 8) : Vec F S1x4x512 .f32 :=
  View.ld x (Rect.unit (s := S1x8x4096) (k0_off8 n) S1x4x512.size (k0_off8_inb n))

/-! ## The loops' values -/

/-- Quad 0: the scores of the 64 query rows against the 512 positions of chunk `n`. -/
def score0 (q : FVec F S64x512 .bf16) (x4 : Vec F S1x32768x128 .i8) (x5 : Vec F S1x8x4096 .f32) (n : Fin 8) : FVec F S64x512 .f32 :=
  k0_pay37 q (codesAt x4 n) (scalesAt0 x5 n)

/-- Quad 1: the scores of the 64 query rows against the 512 positions of chunk `n`. -/
def score1 (q : Vec F S1x1x64x512 .bf16) (x4 : Vec F S1x32768x128 .i8) (x5 : Vec F S1x8x4096 .f32) (n : Fin 8) : FVec F S64x512 .f32 :=
  k0_pay53 q (codesAt x4 n) (scalesAt1 x5 n)

/-- Quad 0: the rows' maximum after `n` chunks, from `init`. -/
def max0 (q : FVec F S64x512 .bf16) (x4 : Vec F S1x32768x128 .i8) (x5 : Vec F S1x8x4096 .f32) (init : FVec F S64x1 .f32) : ℕ → FVec F S64x1 .f32
  | 0 => init
  | n + 1 => if h : n < 8 then k0_pay39 q (max0 q x4 x5 init n) (codesAt x4 ⟨n, h⟩) (scalesAt0 x5 ⟨n, h⟩) else max0 q x4 x5 init n

/-- Quad 1: the rows' maximum after `n` chunks, from `init`. -/
def max1 (q : Vec F S1x1x64x512 .bf16) (x4 : Vec F S1x32768x128 .i8) (x5 : Vec F S1x8x4096 .f32) (init : FVec F S64x1 .f32) : ℕ → FVec F S64x1 .f32
  | 0 => init
  | n + 1 => if h : n < 8 then k0_pay55 q (max1 q x4 x5 init n) (codesAt x4 ⟨n, h⟩) (scalesAt1 x5 ⟨n, h⟩) else max1 q x4 x5 init n

/-- Quad 0: the rows' weighted values after `n` chunks of scores `s`, from `init`. -/
def acc0 (mx : FVec F S64x1 .f32) (s : Fin 8 → FVec F S64x512 .f32) (x6 : Vec F S1x32768x128 .i8) (x7 : Vec F S1x8x4096 .f32) (init : FVec F S64x512 .f32) : ℕ → FVec F S64x512 .f32
  | 0 => init
  | n + 1 => if h : n < 8 then k0_pay44 mx (s ⟨n, h⟩) (codesAt x6 ⟨n, h⟩) (scalesAt0 x7 ⟨n, h⟩) (acc0 mx s x6 x7 init n) else acc0 mx s x6 x7 init n

/-- Quad 1: the rows' weighted values after `n` chunks of scores `s`, from `init`. -/
def acc1 (mx : FVec F S64x1 .f32) (s : Fin 8 → FVec F S64x512 .f32) (x6 : Vec F S1x32768x128 .i8) (x7 : Vec F S1x8x4096 .f32) (init : FVec F S64x512 .f32) : ℕ → FVec F S64x512 .f32
  | 0 => init
  | n + 1 => if h : n < 8 then k0_pay60 mx (s ⟨n, h⟩) (codesAt x6 ⟨n, h⟩) (scalesAt1 x7 ⟨n, h⟩) (acc1 mx s x6 x7 init n) else acc1 mx s x6 x7 init n

/-- Quad 0: the rows' sum of weights after `n` chunks of scores `s`, from `init`. -/
def sum0 (mx : FVec F S64x1 .f32) (s : Fin 8 → FVec F S64x512 .f32) (init : FVec F S64x1 .f32) : ℕ → FVec F S64x1 .f32
  | 0 => init
  | n + 1 => if h : n < 8 then k0_pay45 mx (sum0 mx s init n) (s ⟨n, h⟩) else sum0 mx s init n

/-- Quad 1: the rows' sum of weights after `n` chunks of scores `s`, from `init`. -/
def sum1 (mx : FVec F S64x1 .f32) (s : Fin 8 → FVec F S64x512 .f32) (init : FVec F S64x1 .f32) : ℕ → FVec F S64x1 .f32
  | 0 => init
  | n + 1 => if h : n < 8 then k0_pay61 mx (sum1 mx s init n) (s ⟨n, h⟩) else sum1 mx s init n

/-! ## The block's values -/

/-- The masked scores of all 128 query rows against the 32 new (token, head) rows. -/
def newScores (x1 : Vec F S1x128x128 .bf16) (x2 : Vec F S1x32x128 .bf16) : FVec F S128x32 .f32 :=
  k0_pay31 (k0_pay14 (k0_pay3 x2) (k0_pay4 x2) x1)
    (k0_pay26 (k0_pay23 (iota .tc S128x32 32 [0] iota_S128x32_d0_w32)) (k0_pay24 (iota .tc S128x32 32 [0] iota_S128x32_d0_w32)) (k0_pay25 (iota .tc S128x32 32 [0] iota_S128x32_d0_w32)))
    (k0_pay27 (iota .tc S128x32 32 [1] iota_S128x32_d1_w32)
      (k0_pay21 (k0_pay17 (iota .tc S128x32 32 [0] iota_S128x32_d0_w32) 64#32 k0_pay15 k0_pay16 0#32) (k0_pay18 (iota .tc S128x32 32 [0] iota_S128x32_d0_w32)) 4#32
        (k0_pay19 (iota .tc S128x32 32 [0] iota_S128x32_d0_w32)) (k0_pay20 (iota .tc S128x32 32 [0] iota_S128x32_d0_w32)) 1#32 0#1))
    (k0_pay28 (iota .tc S128x32 32 [1] iota_S128x32_d1_w32)) (k0_pay29 (iota .tc S128x32 32 [1] iota_S128x32_d1_w32)) k0_pay30

/-- The 32 new value rows, each column repeated for the four heads of a quad. -/
def newValues (x3 : Vec F S1x32x128 .bf16) : FVec F S32x512 .f32 := k0_pay33 (k0_pay13 (k0_pay6 x3) (k0_pay7 x3))

/-- Quad 0's query rows, -/
def query0 (x0 : Vec F S1x2x64x512 .bf16) : FVec F S64x512 .bf16 :=
  k0_pay34 (View.ld x0 (Rect.unit (s := S1x2x64x512) ![0, 0, 0, 0] S1x1x64x512.size inb_S1x2x64x512_S1x1x64x512_0_0_0_0))

/-- and quad 1's. -/
def query1 (x0 : Vec F S1x2x64x512 .bf16) : Vec F S1x1x64x512 .bf16 :=
  View.ld x0 (Rect.unit (s := S1x2x64x512) ![0, 1, 0, 0] S1x1x64x512.size inb_S1x2x64x512_S1x1x64x512_0_1_0_0)

/-- Quad 0's rows of the masked new scores, -/
def rows0 (s : FVec F S128x32 .f32) : FVec F S64x32 .f32 := extractStridedSlice S64x32 ![0, 0] s slices_S128x32_o0_0_S64x32

/-- and their maxima. -/
def rowMax0 (s : FVec F S128x32 .f32) : FVec F S64x1 .f32 :=
  shapeCast S64x1 (multiReduction .maximumf [1] S64 (rows0 s) 0xFF800000#32 reduces_S64x32_S64 (.inl rfl) rfl) shapeCasts_S64_S64x1

/-- Quad 0's row maxima over the new and the cached positions. -/
def maxAll0 (x0 : Vec F S1x2x64x512 .bf16) (x1 : Vec F S1x128x128 .bf16) (x2 : Vec F S1x32x128 .bf16) (x4 : Vec F S1x32768x128 .i8) (x5 : Vec F S1x8x4096 .f32) : FVec F S64x1 .f32 :=
  max0 (query0 x0) x4 x5 (rowMax0 (newScores x1 x2)) 8

/-- Quad 1's row maxima over the new and the cached positions. -/
def maxAll1 (x0 : Vec F S1x2x64x512 .bf16) (x1 : Vec F S1x128x128 .bf16) (x2 : Vec F S1x32x128 .bf16) (x4 : Vec F S1x32768x128 .i8) (x5 : Vec F S1x8x4096 .f32) : FVec F S64x1 .f32 :=
  max1 (query1 x0) x4 x5 (k0_pay52 (newScores x1 x2)) 8

/-- Quad 0's row sums of weights. -/
def sumAll0 (x0 : Vec F S1x2x64x512 .bf16) (x1 : Vec F S1x128x128 .bf16) (x2 : Vec F S1x32x128 .bf16) (x4 : Vec F S1x32768x128 .i8) (x5 : Vec F S1x8x4096 .f32) : FVec F S64x1 .f32 :=
  sum0 (maxAll0 x0 x1 x2 x4 x5) (score0 (query0 x0) x4 x5) (k0_pay42 (rows0 (newScores x1 x2)) (maxAll0 x0 x1 x2 x4 x5)) 8

/-- Quad 1's row sums of weights. -/
def sumAll1 (x0 : Vec F S1x2x64x512 .bf16) (x1 : Vec F S1x128x128 .bf16) (x2 : Vec F S1x32x128 .bf16) (x4 : Vec F S1x32768x128 .i8) (x5 : Vec F S1x8x4096 .f32) : FVec F S64x1 .f32 :=
  sum1 (maxAll1 x0 x1 x2 x4 x5) (score1 (query1 x0) x4 x5) (k0_pay58 (newScores x1 x2) (maxAll1 x0 x1 x2 x4 x5)) 8

/-- Quad 0's weighted sums of values. -/
def accAll0 (x0 : Vec F S1x2x64x512 .bf16) (x1 : Vec F S1x128x128 .bf16) (x2 : Vec F S1x32x128 .bf16) (x3 : Vec F S1x32x128 .bf16) (x4 : Vec F S1x32768x128 .i8) (x5 : Vec F S1x8x4096 .f32) (x6 : Vec F S1x32768x128 .i8) (x7 : Vec F S1x8x4096 .f32) : FVec F S64x512 .f32 :=
  acc0 (maxAll0 x0 x1 x2 x4 x5) (score0 (query0 x0) x4 x5) x6 x7 (k0_pay41 (newValues x3) (rows0 (newScores x1 x2)) (maxAll0 x0 x1 x2 x4 x5)) 8

/-- Quad 1's weighted sums of values. -/
def accAll1 (x0 : Vec F S1x2x64x512 .bf16) (x1 : Vec F S1x128x128 .bf16) (x2 : Vec F S1x32x128 .bf16) (x3 : Vec F S1x32x128 .bf16) (x4 : Vec F S1x32768x128 .i8) (x5 : Vec F S1x8x4096 .f32) (x6 : Vec F S1x32768x128 .i8) (x7 : Vec F S1x8x4096 .f32) : FVec F S64x512 .f32 :=
  acc1 (maxAll1 x0 x1 x2 x4 x5) (score1 (query1 x0) x4 x5) x6 x7 (k0_pay57 (newScores x1 x2) (newValues x3) (maxAll1 x0 x1 x2 x4 x5)) 8

/-- The attention outputs of heads 0 to 15, -/
def yBlk0 (x0 : Vec F S1x2x64x512 .bf16) (x1 : Vec F S1x128x128 .bf16) (x2 : Vec F S1x32x128 .bf16) (x3 : Vec F S1x32x128 .bf16) (x4 : Vec F S1x32768x128 .i8) (x5 : Vec F S1x8x4096 .f32) (x6 : Vec F S1x32768x128 .i8) (x7 : Vec F S1x8x4096 .f32) : FVec F S1x4x16x128 .bf16 :=
  k0_pay50 (k0_pay32 (F := F)) (k0_pay46 (sumAll0 x0 x1 x2 x4 x5) (accAll0 x0 x1 x2 x3 x4 x5 x6 x7))
    (iota .tc S64x512 32 [1] iota_S64x512_d1_w32) k0_pay47 4#32 k0_pay48 k0_pay49 0#32

/-- and of heads 16 to 31. -/
def yBlk1 (x0 : Vec F S1x2x64x512 .bf16) (x1 : Vec F S1x128x128 .bf16) (x2 : Vec F S1x32x128 .bf16) (x3 : Vec F S1x32x128 .bf16) (x4 : Vec F S1x32768x128 .i8) (x5 : Vec F S1x8x4096 .f32) (x6 : Vec F S1x32768x128 .i8) (x7 : Vec F S1x8x4096 .f32) : FVec F S1x4x16x128 .bf16 :=
  k0_pay1 (k0_pay32 (F := F)) (k0_pay62 (sumAll1 x0 x1 x2 x4 x5) (accAll1 x0 x1 x2 x3 x4 x5 x6 x7))
    (k0_pay66 16#32 k0_pay63 k0_pay64 k0_pay65 0#1) (k0_pay67 (iota .tc S64x512 32 [1] iota_S64x512_d1_w32))

/-! ## The offsets of the score tiles -/

theorem hz3 : (![0, 0, 0] : Fin 3 → ℕ) = fun _ => 0 := by decide

theorem off3_eq (k : Fin k0_t1_loop.trips) : k0_off3 k = ![0, 512 * k.val] := by revert k; decide +kernel
theorem off9_eq (k : Fin k0_t3_loop.trips) : k0_off9 k = ![64, 512 * k.val] := by revert k; decide +kernel
theorem off4_eq (k : Fin 8) : k0_off4 k = k0_off3 k := rfl
theorem off10_eq (k : Fin 8) : k0_off10 k = k0_off9 k := rfl

section Loops
variable (𝒱 : Variants) (c : Dev nD) (bd : Option 𝒱.V) (i : grid0.Coords) (arg1 : Memref sig .tc .vmem S1x2x64x512 .bf16) (harg1 : arg1.IsWhole) (arg2 : Memref sig .tc .vmem S1x128x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x32768x128 .i8) (harg5 : arg5.IsWhole) (arg6 : Memref sig .tc .vmem S1x8x4096 .f32) (harg6 : arg6.IsWhole) (arg7 : Memref sig .tc .vmem S1x32768x128 .i8) (harg7 : arg7.IsWhole) (arg8 : Memref sig .tc .vmem S1x8x4096 .f32) (harg8 : arg8.IsWhole) (arg9 : Memref sig .tc .vmem S1x4x32x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S128x4096 .f32) (harg14 : arg14.IsWhole) (arg15 : Memref sig .tc .vmem S64x512 .f32) (harg15 : arg15.IsWhole)

/-- One trip of the score loop: what it stores and what it yields. -/
theorem t1_trip (v249 : FVec F S32x512 .f32) (v251 : FVec F S64x512 .bf16) (v252 : FVec F S64x32 .f32) (v254 : FVec F S64x1 .f32) (w0 w1 : BitVec 32) (x4 : Vec F S1x32768x128 .i8) (x5 : Vec F S1x8x4096 .f32) (k : Fin 8) (a : FVec F S64x1 .f32) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 (harg5.unread x4) (harg6.unread x5) k a = [⟨Rect.unit (s := S128x4096) (k0_off3 k) S64x512.size (k0_off3_inb k), score0 v251 x4 x5 k⟩]
    ∧ tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 (harg5.unread x4) (harg6.unread x5) k a = k0_pay39 v251 a (codesAt x4 k) (scalesAt0 x5 k) := by
  have e5 : arg5.view.read (Elt F) (harg5.unread x4) = x4 := harg5.read_unread x4
  have e6 : arg6.view.read (Elt F) (harg6.unread x5) = x5 := harg6.read_unread x5
  constructor
  · unfold tripL_k0_t1 trip_k0_t1; dsimp only
    simp only [View.readAt_eq_ld, e5, e6]
    exact congrArg (fun w => [(⟨_, w⟩ : View.Piece (Elt F) S128x4096 .f32)]) (shapeCast_self _ _)
  · unfold tripR_k0_t1 trip_k0_t1; dsimp only
    simp only [View.readAt_eq_ld, e5, e6]
    rfl

/-- After `n` trips of the score loop: the carried maximum, and every chunk before `n` read back as its scores. -/
theorem t1_state (v249 : FVec F S32x512 .f32) (v251 : FVec F S64x512 .bf16) (v252 : FVec F S64x32 .f32) (v254 : FVec F S64x1 .f32) (w0 w1 : BitVec 32) (x4 : Vec F S1x32768x128 .i8) (x5 : Vec F S1x8x4096 .f32) (init : FVec F S64x1 .f32) (n : ℕ) (hn : n ≤ 8) :
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 (harg5.unread x4) (harg6.unread x5) init n).1 = max0 v251 x4 x5 init n
    ∧ ∀ (f : BufTy.Contents (Elt F) arg14.view.ty) (k : Fin 8), k.val < n →
        arg14.view.readAt (Elt F) (Rect.unit (s := S128x4096) (k0_off4 k) S64x512.size (k0_off4_inb k)).toLoadRect
          (arg14.view.writes (Elt F) f (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 (harg5.unread x4) (harg6.unread x5) init n).2) = score0 v251 x4 x5 k := by
  induction n with
  | zero => exact ⟨rfl, fun f k hk => absurd hk (Nat.not_lt_zero _)⟩
  | succ n ih =>
    have h : n < 8 := hn
    obtain ⟨ih1, ih2⟩ := ih (Nat.le_of_lt h)
    have tr := t1_trip 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 x4 x5 ⟨n, h⟩ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 (harg5.unread x4) (harg6.unread x5) init n).1
    have es := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 (harg5.unread x4) (harg6.unread x5) init ⟨n, h⟩
    rw [show (⟨n, h⟩ : Fin 8).val = n from rfl] at es
    rw [es]
    constructor
    · refine tr.2.trans ?_
      rw [ih1, max0, dif_pos h]
    · intro f k hk
      refine (congrArg (fun L => arg14.view.readAt (Elt F) (Rect.unit (s := S128x4096) (k0_off4 k) S64x512.size (k0_off4_inb k)).toLoadRect
          (arg14.view.writes (Elt F) f (L ++ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 (harg5.unread x4) (harg6.unread x5) init n).2))) tr.1).trans ?_
      funext x
      have hoff : ∀ (k' : Fin 8) (a : Fin 2), k0_off3 k' a = (![0, 512 * k'.val] : Fin 2 → ℕ) a := fun k' a => congrFun (off3_eq k') a
      by_cases e : k.val = n
      · have : k = ⟨n, h⟩ := Fin.ext e
        subst this
        exact View.read_writes_cons_hit arg14.view f _ _ _ x _ rfl
      · have hlt : k.val < n := by omega
        rw [← ih2 f k hlt]
        refine View.read_writes_cons_miss_of_axis arg14.view f _ _ _ 1 (512 * n) 512 (hoff ⟨n, h⟩ 1) rfl rfl (Or.inl ?_)
        show k0_off4 k 1 + 1 * (x 1).val < 512 * n
        have e1 : k0_off4 k 1 = 512 * k.val := hoff k 1
        have e2 : (x 1).val < 512 := (x 1).isLt
        omega

/-- One trip of the value loop: what it stores and what it yields. -/
theorem t2_trip (v249 : FVec F S32x512 .f32) (v251 : FVec F S64x512 .bf16) (v252 : FVec F S64x32 .f32) (v254 : FVec F S64x1 .f32) (w0 w1 : BitVec 32) (v256 : FVec F S64x1 .f32) (x6 : Vec F S1x32768x128 .i8) (x7 : Vec F S1x8x4096 .f32) (s : Fin 8 → FVec F S64x512 .f32)
    (X14 : BufTy.Contents (Elt F) arg14.view.ty)
    (hs : ∀ k : Fin 8, arg14.view.readAt (Elt F) (Rect.unit (s := S128x4096) (k0_off4 k) S64x512.size (k0_off4_inb k)).toLoadRect X14 = s k)
    (k : Fin 8) (a : FVec F S64x1 .f32) (g : BufTy.Contents (Elt F) arg15.view.ty) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 v256 (harg7.unread x6) (harg8.unread x7) X14 k a g = [⟨Rect.unit (s := S64x512) ![0, 0] S64x512.size inb_S64x512_S64x512_0_0,
        k0_pay44 v256 (s k) (codesAt x6 k) (scalesAt0 x7 k) (arg15.view.readAt (Elt F) (Rect.unit (s := S64x512) ![0, 0] S64x512.size inb_S64x512_S64x512_0_0).toLoadRect g)⟩]
    ∧ tripR_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 v256 (harg7.unread x6) (harg8.unread x7) X14 k a g = k0_pay45 v256 a (s k) := by
  have e7 : arg7.view.read (Elt F) (harg7.unread x6) = x6 := harg7.read_unread x6
  have e8 : arg8.view.read (Elt F) (harg8.unread x7) = x7 := harg8.read_unread x7
  rw [← hs k]
  constructor
  · unfold tripL_k0_t2 trip_k0_t2; dsimp only
    simp only [View.readAt_eq_ld, e7, e8]
    rfl
  · unfold tripR_k0_t2 trip_k0_t2; dsimp only

/-- After `n` trips of the value loop over the scores `s`: the carried sum of weights, and the accumulator read back. -/
theorem t2_state (v249 : FVec F S32x512 .f32) (v251 : FVec F S64x512 .bf16) (v252 : FVec F S64x32 .f32) (v254 : FVec F S64x1 .f32) (w0 w1 : BitVec 32) (v256 : FVec F S64x1 .f32) (x6 : Vec F S1x32768x128 .i8) (x7 : Vec F S1x8x4096 .f32) (s : Fin 8 → FVec F S64x512 .f32)
    (X14 : BufTy.Contents (Elt F) arg14.view.ty)
    (hs : ∀ k : Fin 8, arg14.view.readAt (Elt F) (Rect.unit (s := S128x4096) (k0_off4 k) S64x512.size (k0_off4_inb k)).toLoadRect X14 = s k)
    (G : BufTy.Contents (Elt F) arg15.view.ty) (a0 : FVec F S64x512 .f32)
    (hG : arg15.view.readAt (Elt F) (Rect.unit (s := S64x512) ![0, 0] S64x512.size inb_S64x512_S64x512_0_0).toLoadRect G = a0)
    (init : FVec F S64x1 .f32) (n : ℕ) (hn : n ≤ 8) :
    (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 v256 (harg7.unread x6) (harg8.unread x7) X14 G init n).1 = sum0 v256 s init n
    ∧ arg15.view.readAt (Elt F) (Rect.unit (s := S64x512) ![0, 0] S64x512.size inb_S64x512_S64x512_0_0).toLoadRect
          (arg15.view.writes (Elt F) G (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 v256 (harg7.unread x6) (harg8.unread x7) X14 G init n).2) = acc0 v256 s x6 x7 a0 n := by
  induction n with
  | zero => exact ⟨rfl, hG⟩
  | succ n ih =>
    have h : n < 8 := hn
    obtain ⟨ih1, ih2⟩ := ih (Nat.le_of_lt h)
    have tr := t2_trip 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 v256 x6 x7 s X14 hs ⟨n, h⟩ (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 v256 (harg7.unread x6) (harg8.unread x7) X14 G init n).1
      (arg15.view.writes (Elt F) G (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 v256 (harg7.unread x6) (harg8.unread x7) X14 G init n).2)
    have es := st_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 v256 (harg7.unread x6) (harg8.unread x7) X14 G init ⟨n, h⟩
    rw [show (⟨n, h⟩ : Fin 8).val = n from rfl] at es
    rw [es]
    constructor
    · refine tr.2.trans ?_
      rw [ih1, sum0, dif_pos h]
    · refine (congrArg (fun L => arg15.view.readAt (Elt F) (Rect.unit (s := S64x512) ![0, 0] S64x512.size inb_S64x512_S64x512_0_0).toLoadRect
          (arg15.view.writes (Elt F) G (L ++ (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v249 v251 v252 v254 w0 w1 v256 (harg7.unread x6) (harg8.unread x7) X14 G init n).2))) tr.1).trans ?_
      rw [ih2, acc0, dif_pos h]
      funext x
      exact View.read_writes_cons_hit arg15.view G _ _ _ x _ rfl

/-- One trip of the score loop: what it stores and what it yields. -/
theorem t3_trip (v218 : FVec F S128x32 .f32) (v249 : FVec F S32x512 .f32) (v338 : FVec F S1x4x16x128 .bf16) (v339 : Vec F S1x1x64x512 .bf16) (x4 : Vec F S1x32768x128 .i8) (x5 : Vec F S1x8x4096 .f32) (k : Fin 8) (a : FVec F S64x1 .f32) :
    tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v339 (harg5.unread x4) (harg6.unread x5) k a = [⟨Rect.unit (s := S128x4096) (k0_off9 k) S64x512.size (k0_off9_inb k), score1 v339 x4 x5 k⟩]
    ∧ tripR_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v339 (harg5.unread x4) (harg6.unread x5) k a = k0_pay55 v339 a (codesAt x4 k) (scalesAt1 x5 k) := by
  have e5 : arg5.view.read (Elt F) (harg5.unread x4) = x4 := harg5.read_unread x4
  have e6 : arg6.view.read (Elt F) (harg6.unread x5) = x5 := harg6.read_unread x5
  constructor
  · unfold tripL_k0_t3 trip_k0_t3; dsimp only
    simp only [View.readAt_eq_ld, e5, e6]
    exact congrArg (fun w => [(⟨_, w⟩ : View.Piece (Elt F) S128x4096 .f32)]) (shapeCast_self _ _)
  · unfold tripR_k0_t3 trip_k0_t3; dsimp only
    simp only [View.readAt_eq_ld, e5, e6]
    rfl

/-- After `n` trips of the score loop: the carried maximum, and every chunk before `n` read back as its scores. -/
theorem t3_state (v218 : FVec F S128x32 .f32) (v249 : FVec F S32x512 .f32) (v338 : FVec F S1x4x16x128 .bf16) (v339 : Vec F S1x1x64x512 .bf16) (x4 : Vec F S1x32768x128 .i8) (x5 : Vec F S1x8x4096 .f32) (init : FVec F S64x1 .f32) (n : ℕ) (hn : n ≤ 8) :
    (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v339 (harg5.unread x4) (harg6.unread x5) init n).1 = max1 v339 x4 x5 init n
    ∧ ∀ (f : BufTy.Contents (Elt F) arg14.view.ty) (k : Fin 8), k.val < n →
        arg14.view.readAt (Elt F) (Rect.unit (s := S128x4096) (k0_off10 k) S64x512.size (k0_off10_inb k)).toLoadRect
          (arg14.view.writes (Elt F) f (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v339 (harg5.unread x4) (harg6.unread x5) init n).2) = score1 v339 x4 x5 k := by
  induction n with
  | zero => exact ⟨rfl, fun f k hk => absurd hk (Nat.not_lt_zero _)⟩
  | succ n ih =>
    have h : n < 8 := hn
    obtain ⟨ih1, ih2⟩ := ih (Nat.le_of_lt h)
    have tr := t3_trip 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v339 x4 x5 ⟨n, h⟩ (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v339 (harg5.unread x4) (harg6.unread x5) init n).1
    have es := st_k0_t3_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v339 (harg5.unread x4) (harg6.unread x5) init ⟨n, h⟩
    rw [show (⟨n, h⟩ : Fin 8).val = n from rfl] at es
    rw [es]
    constructor
    · refine tr.2.trans ?_
      rw [ih1, max1, dif_pos h]
    · intro f k hk
      refine (congrArg (fun L => arg14.view.readAt (Elt F) (Rect.unit (s := S128x4096) (k0_off10 k) S64x512.size (k0_off10_inb k)).toLoadRect
          (arg14.view.writes (Elt F) f (L ++ (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v339 (harg5.unread x4) (harg6.unread x5) init n).2))) tr.1).trans ?_
      funext x
      have hoff : ∀ (k' : Fin 8) (a : Fin 2), k0_off9 k' a = (![64, 512 * k'.val] : Fin 2 → ℕ) a := fun k' a => congrFun (off9_eq k') a
      by_cases e : k.val = n
      · have : k = ⟨n, h⟩ := Fin.ext e
        subst this
        exact View.read_writes_cons_hit arg14.view f _ _ _ x _ rfl
      · have hlt : k.val < n := by omega
        rw [← ih2 f k hlt]
        refine View.read_writes_cons_miss_of_axis arg14.view f _ _ _ 1 (512 * n) 512 (hoff ⟨n, h⟩ 1) rfl rfl (Or.inl ?_)
        show k0_off10 k 1 + 1 * (x 1).val < 512 * n
        have e1 : k0_off10 k 1 = 512 * k.val := hoff k 1
        have e2 : (x 1).val < 512 := (x 1).isLt
        omega

/-- One trip of the value loop: what it stores and what it yields. -/
theorem t4_trip (v218 : FVec F S128x32 .f32) (v249 : FVec F S32x512 .f32) (v338 : FVec F S1x4x16x128 .bf16) (v345 : FVec F S64x1 .f32) (x6 : Vec F S1x32768x128 .i8) (x7 : Vec F S1x8x4096 .f32) (s : Fin 8 → FVec F S64x512 .f32)
    (X14 : BufTy.Contents (Elt F) arg14.view.ty)
    (hs : ∀ k : Fin 8, arg14.view.readAt (Elt F) (Rect.unit (s := S128x4096) (k0_off10 k) S64x512.size (k0_off10_inb k)).toLoadRect X14 = s k)
    (k : Fin 8) (a : FVec F S64x1 .f32) (g : BufTy.Contents (Elt F) arg15.view.ty) :
    tripL_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v345 (harg7.unread x6) (harg8.unread x7) X14 k a g = [⟨Rect.unit (s := S64x512) ![0, 0] S64x512.size inb_S64x512_S64x512_0_0,
        k0_pay60 v345 (s k) (codesAt x6 k) (scalesAt1 x7 k) (arg15.view.readAt (Elt F) (Rect.unit (s := S64x512) ![0, 0] S64x512.size inb_S64x512_S64x512_0_0).toLoadRect g)⟩]
    ∧ tripR_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v345 (harg7.unread x6) (harg8.unread x7) X14 k a g = k0_pay61 v345 a (s k) := by
  have e7 : arg7.view.read (Elt F) (harg7.unread x6) = x6 := harg7.read_unread x6
  have e8 : arg8.view.read (Elt F) (harg8.unread x7) = x7 := harg8.read_unread x7
  rw [← hs k]
  constructor
  · unfold tripL_k0_t4 trip_k0_t4; dsimp only
    simp only [View.readAt_eq_ld, e7, e8]
    rfl
  · unfold tripR_k0_t4 trip_k0_t4; dsimp only

/-- After `n` trips of the value loop over the scores `s`: the carried sum of weights, and the accumulator read back. -/
theorem t4_state (v218 : FVec F S128x32 .f32) (v249 : FVec F S32x512 .f32) (v338 : FVec F S1x4x16x128 .bf16) (v345 : FVec F S64x1 .f32) (x6 : Vec F S1x32768x128 .i8) (x7 : Vec F S1x8x4096 .f32) (s : Fin 8 → FVec F S64x512 .f32)
    (X14 : BufTy.Contents (Elt F) arg14.view.ty)
    (hs : ∀ k : Fin 8, arg14.view.readAt (Elt F) (Rect.unit (s := S128x4096) (k0_off10 k) S64x512.size (k0_off10_inb k)).toLoadRect X14 = s k)
    (G : BufTy.Contents (Elt F) arg15.view.ty) (a0 : FVec F S64x512 .f32)
    (hG : arg15.view.readAt (Elt F) (Rect.unit (s := S64x512) ![0, 0] S64x512.size inb_S64x512_S64x512_0_0).toLoadRect G = a0)
    (init : FVec F S64x1 .f32) (n : ℕ) (hn : n ≤ 8) :
    (st_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v345 (harg7.unread x6) (harg8.unread x7) X14 G init n).1 = sum1 v345 s init n
    ∧ arg15.view.readAt (Elt F) (Rect.unit (s := S64x512) ![0, 0] S64x512.size inb_S64x512_S64x512_0_0).toLoadRect
          (arg15.view.writes (Elt F) G (st_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v345 (harg7.unread x6) (harg8.unread x7) X14 G init n).2) = acc1 v345 s x6 x7 a0 n := by
  induction n with
  | zero => exact ⟨rfl, hG⟩
  | succ n ih =>
    have h : n < 8 := hn
    obtain ⟨ih1, ih2⟩ := ih (Nat.le_of_lt h)
    have tr := t4_trip 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v345 x6 x7 s X14 hs ⟨n, h⟩ (st_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v345 (harg7.unread x6) (harg8.unread x7) X14 G init n).1
      (arg15.view.writes (Elt F) G (st_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v345 (harg7.unread x6) (harg8.unread x7) X14 G init n).2)
    have es := st_k0_t4_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v345 (harg7.unread x6) (harg8.unread x7) X14 G init ⟨n, h⟩
    rw [show (⟨n, h⟩ : Fin 8).val = n from rfl] at es
    rw [es]
    constructor
    · refine tr.2.trans ?_
      rw [ih1, sum1, dif_pos h]
    · refine (congrArg (fun L => arg15.view.readAt (Elt F) (Rect.unit (s := S64x512) ![0, 0] S64x512.size inb_S64x512_S64x512_0_0).toLoadRect
          (arg15.view.writes (Elt F) G (L ++ (st_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v218 v249 v338 v345 (harg7.unread x6) (harg8.unread x7) X14 G init n).2))) tr.1).trans ?_
      rw [ih2, acc1, dif_pos h]
      funext x
      exact View.read_writes_cons_hit arg15.view G _ _ _ x _ rfl

end Loops

/-! ## The run's words -/

section Words
variable (c : Dev nD) (i : grid0.Coords) (arg1 : Memref sig .tc .vmem S1x2x64x512 .bf16) (harg1 : arg1.IsWhole) (arg2 : Memref sig .tc .vmem S1x128x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x32768x128 .i8) (harg5 : arg5.IsWhole) (arg6 : Memref sig .tc .vmem S1x8x4096 .f32) (harg6 : arg6.IsWhole) (arg7 : Memref sig .tc .vmem S1x32768x128 .i8) (harg7 : arg7.IsWhole) (arg8 : Memref sig .tc .vmem S1x8x4096 .f32) (harg8 : arg8.IsWhole) (arg9 : Memref sig .tc .vmem S1x4x32x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S128x4096 .f32) (harg14 : arg14.IsWhole) (arg15 : Memref sig .tc .vmem S64x512 .f32) (harg15 : arg15.IsWhole) (x0 : Vec F S1x2x64x512 .bf16) (x1 : Vec F S1x128x128 .bf16) (x2 : Vec F S1x32x128 .bf16) (x3 : Vec F S1x32x128 .bf16) (x4 : Vec F S1x32768x128 .i8) (x5 : Vec F S1x8x4096 .f32) (x6 : Vec F S1x32768x128 .i8) (x7 : Vec F S1x8x4096 .f32) (f14 : BufTy.Contents (Elt F) arg14.view.ty) (f15 : BufTy.Contents (Elt F) arg15.view.ty)

theorem r_eq : kernelRun.sl.r c arg3 harg3 x2 = k0_pay3 x2 := by
  have e : arg3.view.read (Elt F) (harg3.unread x2) = x2 := harg3.read_unread x2
  unfold kernelRun.sl.r
  rw [View.readAt_eq_ld, e, View.ld_unit_zero hz3]

theorem r_1_eq : kernelRun.sl.r_1 c arg3 harg3 x2 = k0_pay4 x2 := by
  have e : arg3.view.read (Elt F) (harg3.unread x2) = x2 := harg3.read_unread x2
  unfold kernelRun.sl.r_1
  rw [View.readAt_eq_ld, e, View.ld_unit_zero hz3]

theorem r_2_eq : kernelRun.sl.r_2 c arg4 harg4 x3 = k0_pay6 x3 := by
  have e : arg4.view.read (Elt F) (harg4.unread x3) = x3 := harg4.read_unread x3
  unfold kernelRun.sl.r_2
  rw [View.readAt_eq_ld, e, View.ld_unit_zero hz3]

theorem r_3_eq : kernelRun.sl.r_3 c arg4 harg4 x3 = k0_pay7 x3 := by
  have e : arg4.view.read (Elt F) (harg4.unread x3) = x3 := harg4.read_unread x3
  unfold kernelRun.sl.r_3
  rw [View.readAt_eq_ld, e, View.ld_unit_zero hz3]

theorem r_6_eq : kernelRun.sl.r_6 c arg2 harg2 arg3 harg3 x1 x2 = k0_pay14 (k0_pay3 x2) (k0_pay4 x2) x1 := by
  have e : arg2.view.read (Elt F) (harg2.unread x1) = x1 := harg2.read_unread x1
  unfold kernelRun.sl.r_6
  rw [r_eq, r_1_eq, View.readAt_eq_ld, e, View.ld_unit_zero hz3]

theorem r_9_eq : kernelRun.sl.r_9 c arg2 harg2 arg3 harg3 x1 x2 = newScores x1 x2 := by
  unfold kernelRun.sl.r_9
  rw [r_6_eq]; rfl

theorem r_12_eq : kernelRun.sl.r_12 c arg2 harg2 arg3 harg3 x1 x2 = rows0 (newScores x1 x2) := by
  unfold kernelRun.sl.r_12
  rw [r_6_eq]; rfl

theorem r_13_eq : kernelRun.sl.r_13 c arg2 harg2 arg3 harg3 x1 x2 = rowMax0 (newScores x1 x2) := by
  unfold kernelRun.sl.r_13
  rw [r_6_eq]; rfl

theorem r_10_eq : kernelRun.sl.r_10 c arg4 harg4 x3 = newValues x3 := by
  unfold kernelRun.sl.r_10 kernelRun.sl.r_5
  rw [r_2_eq, r_3_eq]; rfl

theorem r_11_eq : kernelRun.sl.r_11 c arg1 harg1 x0 = query0 x0 := by
  have e : arg1.view.read (Elt F) (harg1.unread x0) = x0 := harg1.read_unread x0
  unfold kernelRun.sl.r_11
  rw [View.readAt_eq_ld, e]; rfl

theorem r_14_eq : kernelRun.sl.r_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 f14
    = k0_pay46 (sumAll0 x0 x1 x2 x4 x5) (accAll0 x0 x1 x2 x3 x4 x5 x6 x7) := by
  have ht1 : Scf.trips k0_t1_loop.lb k0_t1_loop.ub k0_t1_loop.st = 8 := rfl
  have ht2 : Scf.trips k0_t2_loop.lb k0_t2_loop.ub k0_t2_loop.st = 8 := rfl
  have h1 := t1_state Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (newValues x3) (query0 x0) (rows0 (newScores x1 x2)) (rowMax0 (newScores x1 x2)) 0#32 1#32 x4 x5 (rowMax0 (newScores x1 x2)) 8 le_rfl
  have h2 := t2_state Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (newValues x3) (query0 x0) (rows0 (newScores x1 x2)) (rowMax0 (newScores x1 x2)) 0#32 1#32 (maxAll0 x0 x1 x2 x4 x5) x6 x7 (score0 (query0 x0) x4 x5) _ (fun k => h1.2 f14 k k.isLt)
    (arg15.view.writes (Elt F) arg15.view.junk [⟨Rect.unit (s := S64x512) ![0, 0] S64x512.size inb_S64x512_S64x512_0_0, k0_pay41 (newValues x3) (rows0 (newScores x1 x2)) (maxAll0 x0 x1 x2 x4 x5)⟩])
    (k0_pay41 (newValues x3) (rows0 (newScores x1 x2)) (maxAll0 x0 x1 x2 x4 x5))
    (funext fun x => View.read_writes_cons_hit arg15.view _ _ _ _ x _ rfl)
    (k0_pay42 (rows0 (newScores x1 x2)) (maxAll0 x0 x1 x2 x4 x5)) 8 le_rfl
  unfold kernelRun.sl.r_14 kernelRun.sl.v268 kernelRun.sl.HS1_1
  unfold View.readCov
  rw [r_10_eq, r_11_eq, r_12_eq, r_13_eq, ht1]
  have h11 := h1.1
  refine congr (congrArg k0_pay46 ?_) ?_
  · refine Eq.trans ?_ h2.1
    rw [h11]; rfl
  · refine Eq.trans ?_ h2.2
    refine (congrArg _ (View.writes_append arg15.view _ _ _)).trans ?_
    rw [h11]; rfl

theorem r_15_eq : kernelRun.sl.r_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 f14 = yBlk0 x0 x1 x2 x3 x4 x5 x6 x7 := by
  unfold kernelRun.sl.r_15
  rw [r_14_eq]; rfl

theorem q1_eq : arg1.view.readAt (Elt F) (Rect.unit (s := S1x2x64x512) ![0, 1, 0, 0] S1x1x64x512.size inb_S1x2x64x512_S1x1x64x512_0_1_0_0).toLoadRect
    (harg1.unread x0) = query1 x0 := by
  have e : arg1.view.read (Elt F) (harg1.unread x0) = x0 := harg1.read_unread x0
  rw [View.readAt_eq_ld, e]; rfl

theorem r_16_eq : kernelRun.sl.r_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 f14
    = k0_pay62 (sumAll1 x0 x1 x2 x4 x5) (accAll1 x0 x1 x2 x3 x4 x5 x6 x7) := by
  have ht1 : Scf.trips k0_t1_loop.lb k0_t1_loop.ub k0_t1_loop.st = 8 := rfl
  have h3 := t3_state Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (newScores x1 x2) (newValues x3) (yBlk0 x0 x1 x2 x3 x4 x5 x6 x7) (query1 x0) x4 x5 (k0_pay52 (newScores x1 x2)) 8 le_rfl
  have h31 := h3.1
  unfold kernelRun.sl.r_16 kernelRun.sl.v357
  unfold View.readCov
  rw [r_9_eq, r_10_eq, r_15_eq, q1_eq, ht1, h31]
  have h4 := fun X14 hs G hG => t4_state Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (newScores x1 x2) (newValues x3) (yBlk0 x0 x1 x2 x3 x4 x5 x6 x7) (maxAll1 x0 x1 x2 x4 x5) x6 x7 (score1 (query1 x0) x4 x5) X14 hs G
    (k0_pay57 (newScores x1 x2) (newValues x3) (maxAll1 x0 x1 x2 x4 x5)) hG
    (k0_pay58 (newScores x1 x2) (maxAll1 x0 x1 x2 x4 x5)) 8 le_rfl
  have hs14 := fun (f : BufTy.Contents (Elt F) arg14.view.ty) L (k : Fin 8) =>
    (congrArg (arg14.view.readAt (Elt F) (Rect.unit (s := S128x4096) (k0_off10 k) S64x512.size (k0_off10_inb k)).toLoadRect) (View.writes_append arg14.view f _ L)).trans (h3.2 _ k k.isLt)
  refine congr (congrArg k0_pay62 ?_) ?_
  · exact (h4 _ (hs14 f14 _) _ (funext fun x => View.read_writes_cons_hit arg15.view _ _ _ _ x _ rfl)).1
  · refine (congrArg _ (View.writes_append arg15.view _ _ _)).trans ?_
    exact (h4 _ (hs14 f14 _) _ (funext fun x => View.read_writes_cons_hit arg15.view _ _ _ _ x _ rfl)).2

/-- The pieces of the attention outputs that a grid point writes. -/
def yPieces : List (View.Piece (Elt F) S1x4x32x128 .bf16) :=
  [⟨Rect.unit (s := S1x4x32x128) ![0, 0, 16, 0] ![1, 4, 16, 128] inb_S1x4x32x128_S1x4x16x128_0_0_16_0, yBlk1 x0 x1 x2 x3 x4 x5 x6 x7⟩,
   ⟨Rect.unit (s := S1x4x32x128) ![0, 0, 0, 0] ![1, 4, 16, 128] inb_S1x4x32x128_S1x4x16x128_0_0_0_0, yBlk0 x0 x1 x2 x3 x4 x5 x6 x7⟩]

/-- The piece of the new keys' codes (`x` the new keys) that a grid point writes, -/
def kCodePieces (x : Vec F S1x32x128 .bf16) : List (View.Piece (Elt F) S1x32x128 .i8) :=
  [⟨Rect.unit (s := S1x32x128) ![0, 0, 0] S1x32x128.size inb_S1x32x128_S1x32x128_0_0_0, k0_pay9 (k0_pay8 x)⟩]

/-- the piece of the new keys' scales, -/
def kScalePieces (x : Vec F S1x32x128 .bf16) : List (View.Piece (Elt F) S1x32x1 .f32) :=
  [⟨Rect.unit (s := S1x32x1) ![0, 0, 0] S1x32x1.size inb_S1x32x1_S1x32x1_0_0_0, k0_pay11 (k0_pay3 x)⟩]

/-- the piece of the new values' codes (`x` the new values), -/
def vCodePieces (x : Vec F S1x32x128 .bf16) : List (View.Piece (Elt F) S1x32x128 .i8) :=
  [⟨Rect.unit (s := S1x32x128) ![0, 0, 0] S1x32x128.size inb_S1x32x128_S1x32x128_0_0_0, k0_pay10 (k0_pay7 x)⟩]

/-- and the piece of the new values' scales. -/
def vScalePieces (x : Vec F S1x32x128 .bf16) : List (View.Piece (Elt F) S1x32x1 .f32) :=
  [⟨Rect.unit (s := S1x32x1) ![0, 0, 0] S1x32x1.size inb_S1x32x1_S1x32x1_0_0_0, k0_pay12 (k0_pay6 x)⟩]

/-- The run's pieces of the attention outputs, whatever the scratch buffers held. -/
theorem run_y : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 f14 f15).1 = yPieces x0 x1 x2 x3 x4 x5 x6 x7 := by
  unfold kernelRun; dsimp only
  rw [r_15_eq, r_16_eq]; rfl

/-- The run's piece of the new keys' codes, -/
theorem run_kCode : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 f14 f15).2.1 = kCodePieces x2 := by
  have e : arg3.view.read (Elt F) (harg3.unread x2) = x2 := harg3.read_unread x2
  unfold kernelRun; dsimp only
  unfold kernelRun.sl.H9_1 kernelRun.sl.r_4
  rw [View.readAt_eq_ld, e, View.ld_unit_zero hz3]; rfl

/-- of the new keys' scales, -/
theorem run_kScale : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 f14 f15).2.2.1 = kScalePieces x2 := by
  unfold kernelRun; dsimp only
  unfold kernelRun.sl.H10_1
  rw [r_eq]; rfl

/-- of the new values' codes, -/
theorem run_vCode : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 f14 f15).2.2.2.1 = vCodePieces x3 := by
  unfold kernelRun; dsimp only
  unfold kernelRun.sl.H11_1
  rw [r_3_eq]; rfl

/-- and of the new values' scales. -/
theorem run_vScale : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 f14 f15).2.2.2.2.1 = vScalePieces x3 := by
  unfold kernelRun; dsimp only
  unfold kernelRun.sl.H12_1
  rw [r_2_eq]; rfl

end Words

end Cert.KernelIdeal.Gen

end
-- ==== Proof.KernelIdeal.Frame.lean ====
/- The kernel's run: what each grid point leaves in the staging buffers, the proof data of the pipeline, the body's
   obligation at every grid point, and the run of the whole program with the frame it gives. -/
module

public import proofs.«01_k».proof.Proof.KernelIdeal.Blocks
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a grid point leaves in the outputs' buffers -/

section Out
variable (x0 : Vec F S1x2x64x512 .bf16) (x1 : Vec F S1x128x128 .bf16) (x2 : Vec F S1x32x128 .bf16) (x3 : Vec F S1x32x128 .bf16) (x4 : Vec F S1x32768x128 .i8) (x5 : Vec F S1x8x4096 .f32) (x6 : Vec F S1x32768x128 .i8) (x7 : Vec F S1x8x4096 .f32)

/-- The pieces of the attention outputs cover their block, -/
theorem cover_y (y : S1x4x32x128.Idx) : ∃ pc ∈ yPieces x0 x1 x2 x3 x4 x5 x6 x7, y ∈ pc.1.set :=
  View.cover_of_tiledL (yPieces x0 x1 x2 x3 x4 x5 x6 x7) S1x4x16x128.size (by sl_kernel_rfl) y

/-- the new keys' codes', -/
theorem cover_kCode (x : Vec F S1x32x128 .bf16) (y : S1x32x128.Idx) : ∃ pc ∈ kCodePieces x, y ∈ pc.1.set :=
  View.cover_of_tiledL (kCodePieces x) S1x32x128.size (by sl_kernel_rfl) y

/-- the new keys' scales', -/
theorem cover_kScale (x : Vec F S1x32x128 .bf16) (y : S1x32x1.Idx) : ∃ pc ∈ kScalePieces x, y ∈ pc.1.set :=
  View.cover_of_tiledL (kScalePieces x) S1x32x1.size (by sl_kernel_rfl) y

/-- the new values' codes', -/
theorem cover_vCode (x : Vec F S1x32x128 .bf16) (y : S1x32x128.Idx) : ∃ pc ∈ vCodePieces x, y ∈ pc.1.set :=
  View.cover_of_tiledL (vCodePieces x) S1x32x128.size (by sl_kernel_rfl) y

/-- and the new values' scales'. -/
theorem cover_vScale (x : Vec F S1x32x128 .bf16) (y : S1x32x1.Idx) : ∃ pc ∈ vScalePieces x, y ∈ pc.1.set :=
  View.cover_of_tiledL (vScalePieces x) S1x32x1.size (by sl_kernel_rfl) y

/-- The block of attention outputs a grid point leaves, -/
def outY : Vec F S1x4x32x128 .bf16 := VO0_8.read (Elt F) (VO0_8.writes (Elt F) VO0_8.junk (yPieces x0 x1 x2 x3 x4 x5 x6 x7))

/-- the block of new keys' codes, -/
def outKCode (x : Vec F S1x32x128 .bf16) : Vec F S1x32x128 .i8 := VO0_9.read (Elt F) (VO0_9.writes (Elt F) VO0_9.junk (kCodePieces x))

/-- of their scales, -/
def outKScale (x : Vec F S1x32x128 .bf16) : Vec F S1x32x1 .f32 := VO0_10.read (Elt F) (VO0_10.writes (Elt F) VO0_10.junk (kScalePieces x))

/-- of new values' codes, -/
def outVCode (x : Vec F S1x32x128 .bf16) : Vec F S1x32x128 .i8 := VO0_11.read (Elt F) (VO0_11.writes (Elt F) VO0_11.junk (vCodePieces x))

/-- and of their scales. -/
def outVScale (x : Vec F S1x32x128 .bf16) : Vec F S1x32x1 .f32 := VO0_12.read (Elt F) (VO0_12.writes (Elt F) VO0_12.junk (vScalePieces x))

end Out

/-- A whole buffer owned at some value is owned at some contents. -/
theorem owns_elim {sp : Space} {s : Shape} {e : EltTy} (c : Thread nD τ) (mm : Memref sig c.2.kind sp s e) (d : s.Idx → Elt F e) :
    owns c mm fullShare d ⊢ (iprop(∃ f, mm.view.loc c ↦[mm.view.set]{fullShare} f) : sProp 𝕄) := by
  unfold owns
  iintro ⟨%f, -, H⟩
  iexists f; iexact H

/-! ## The pipeline's proof data -/

/-- The proof data of the one pipeline on core `c`: the arrays as the region finds them; after the body at point `t`
    each input's buffer at its block and the outputs' at what the point computes from the blocks; the scratch buffers at
    whatever they hold; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outY (iblk m c 0 t) (iblk m c 1 t) (iblk m c 2 t) (iblk m c 3 t) (iblk m c 4 t) (iblk m c 5 t) (iblk m c 6 t) (iblk m c 7 t)
    | ⟨9, _⟩ => outKCode (iblk m c 2 t)
    | ⟨10, _⟩ => outKScale (iblk m c 2 t)
    | ⟨11, _⟩ => outVCode (iblk m c 3 t)
    | ⟨12, _⟩ => outVScale (iblk m c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outY (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = outKCode (iblk m c 2 t) := by dsimp only [dats]
theorem after0_10 (c : Dev nD) (t : Fin cfg0.N) : (dats m 0 c).after 10 t = outKScale (iblk m c 2 t) := by dsimp only [dats]
theorem after0_11 (c : Dev nD) (t : Fin cfg0.N) : (dats m 0 c).after 11 t = outVCode (iblk m c 3 t) := by dsimp only [dats]
theorem after0_12 (c : Dev nD) (t : Fin cfg0.N) : (dats m 0 c).after 12 t = outVScale (iblk m c 3 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  unfold outY outKCode outKScale outVCode outVScale
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave HS0 := (owns_elim _ _ _) $$ HS0
  ihave HS1 := (owns_elim _) $$ HS1
  icases HS0 with ⟨%f14, HS0⟩
  icases HS1 with ⟨%f15, HS1⟩
  iapply ((kernelRun c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) f14 f15).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  iintro ⟨H0, H1, H2, H3, H4, H5, H6, H7, ⟨%e8, H8⟩, ⟨%e9, H9⟩, ⟨%e10, H10⟩, ⟨%e11, H11⟩, ⟨%e12, H12⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; rw [run_y]; exact View.read_writes_of_cover _ _ _ _ _ (cover_y _ _ _ _ _ _ _ _)
  isplitl [H9]
  · unfold owns; iexists _; isplitr
    swap; · iexact H9
    ipureintro; rw [run_kCode]; exact View.read_writes_of_cover _ _ _ _ _ (cover_kCode _)
  isplitl [H10]
  · unfold owns; iexists _; isplitr
    swap; · iexact H10
    ipureintro; rw [run_kScale]; exact View.read_writes_of_cover _ _ _ _ _ (cover_kScale _)
  isplitl [H11]
  · unfold owns; iexists _; isplitr
    swap; · iexact H11
    ipureintro; rw [run_vCode]; exact View.read_writes_of_cover _ _ _ _ _ (cover_vCode _)
  unfold owns; iexists _; isplitr
  swap; · iexact H12
  ipureintro; rw [run_vScale]; exact View.read_writes_of_cover _ _ _ _ _ (cover_vScale _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The run of the whole program: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame, for any values: every execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Gen

end
-- ==== Proof.KernelIdeal.Repack.lean ====
/- One chunk of a cache as the kernel unpacks it: four heads' codes of one position sit in four neighbouring bytes of
   a column; reading them as one word, transposing the words and reading them as bytes again puts head `k`, component
   `d` of position `j` at row `4d + k`, column `j`. -/
module

public import proofs.«01_k».proof.Proof.KernelIdeal.Blocks
public import Idealize.ShloMosaic.Lib.Pointwise
public import Idealize.ShloMosaic.Lib.BitcastFour

@[expose] public section

set_option maxRecDepth 16384

noncomputable section

namespace Cert.KernelIdeal.Gen

open Idealize.ShloMosaic

/-- Words read as bytes: row `w`, column `j` is byte `w % 4` of word row `w / 4` of that column. -/
theorem bytes_getLsbD (x : IVec S128x512 32) (w j : Fin 512) (q : ℕ) (hq : q < 8) :
    (bitcast S512x512 8 x bitcasts_S128x512_w32_S512x512_w8 (ix2 w j)).getLsbD q
      = (x (ix2 (⟨w.val / 4, by omega⟩ : Fin 128) j)).getLsbD (8 * (w.val % 4) + q) := by
  rw [bitcast_getLsbD x bitcasts_S128x512_w32_S512x512_w8 (ix2 w j) q hq (by decide)]
  have er : S512x512.row (ix2 w j) = w.val := rfl
  congr 1
  · congr 1
    funext c
    match c with
    | ⟨0, _⟩ =>
      refine Fin.ext ((Shape.Bitcasts.srcIdx_row _ _ _ _ ⟨0, Nat.zero_lt_two⟩ rfl).trans ?_)
      rw [er]; show _ = w.val / 4; omega
    | ⟨1, _⟩ => exact Fin.ext (Shape.Bitcasts.srcIdx_other _ _ _ _ ⟨1, Nat.one_lt_two⟩ (by show ¬ 1 + 2 = 2; omega))
  · rw [er]; omega

/-- Bytes read as words: byte `b` of word row `a` of a column is row `4a + b` of that column. -/
theorem words_getLsbD (x : IVec S4096x128 8) (a : Fin 1024) (l : Fin 128) (b q : ℕ) (hb : b < 4) (hq : q < 8) :
    (bitcast S1024x128 32 x bitcasts_S4096x128_w8_S1024x128_w32 (ix2 a l)).getLsbD (8 * b + q)
      = (x (ix2 (⟨4 * a.val + b, by omega⟩ : Fin 4096) l)).getLsbD q := by
  have h := bitcast_8_32_getLsbD_ix2 x bitcasts_S4096x128_w8_S1024x128_w32 a l (8 * b + q) (by omega)
    ⟨4 * a.val + b, by omega⟩ (by show 4 * a.val + b = _; omega)
  rw [show (8 * b + q) % 8 = q by omega] at h
  simp only [← ix2_eq_valueIdx] at h
  exact h

/-- Quad 0's unpacked codes. -/
theorem repack0_apply (c : Vec Ideal S1x4096x128 .i8) (w j : Fin 512) :
    bitcast S512x512 8 (transpose S128x512 [1, 0] (shapeCast S512x128 (extractStridedSlice S512x1x128 ![0, 0, 0]
        (shapeCast S512x2x128 (bitcast S1024x128 32 (shapeCast S4096x128 c shapeCasts_S1x4096x128_S4096x128) bitcasts_S4096x128_w8_S1024x128_w32) shapeCasts_S1024x128_S512x2x128)
        slices_S512x2x128_o0_0_0_S512x1x128) shapeCasts_S512x1x128_S512x128) transposes_S512x128_p1_0_S128x512) bitcasts_S128x512_w32_S512x512_w8 (ix2 w j)
      = c (ix3 (0 : Fin 1) (⟨8 * j.val + w.val % 4, by omega⟩ : Fin 4096) (⟨w.val / 4, by omega⟩ : Fin 128)) := by
  apply BitVec.eq_of_getLsbD_eq
  intro q hq
  rw [bytes_getLsbD _ w j q hq]
  pointwise
  refine (words_getLsbD _ _ _ (w.val % 4) q (by omega) hq).trans ?_
  pointwise
  refine congrArg (fun a => BitVec.getLsbD (c (ix3 (0 : Fin 1) a _)) q) (Fin.ext ?_)
  show 4 * (j.val * 2) + w.val % 4 = 8 * j.val + w.val % 4
  omega

/-- Quad 1's unpacked codes. -/
theorem repack1_apply (c : Vec Ideal S1x4096x128 .i8) (w j : Fin 512) :
    bitcast S512x512 8 (transpose S128x512 [1, 0] (shapeCast S512x128 (extractStridedSlice S512x1x128 ![0, 1, 0]
        (shapeCast S512x2x128 (bitcast S1024x128 32 (shapeCast S4096x128 c shapeCasts_S1x4096x128_S4096x128) bitcasts_S4096x128_w8_S1024x128_w32) shapeCasts_S1024x128_S512x2x128)
        slices_S512x2x128_o0_1_0_S512x1x128) shapeCasts_S512x1x128_S512x128) transposes_S512x128_p1_0_S128x512) bitcasts_S128x512_w32_S512x512_w8 (ix2 w j)
      = c (ix3 (0 : Fin 1) (⟨8 * j.val + 4 + w.val % 4, by omega⟩ : Fin 4096) (⟨w.val / 4, by omega⟩ : Fin 128)) := by
  apply BitVec.eq_of_getLsbD_eq
  intro q hq
  rw [bytes_getLsbD _ w j q hq]
  pointwise
  refine (words_getLsbD _ _ _ (w.val % 4) q (by omega) hq).trans ?_
  pointwise
  refine congrArg (fun a => BitVec.getLsbD (c (ix3 (0 : Fin 1) a _)) q) (Fin.ext ?_)
  show 4 * (j.val * 2 + 1) + w.val % 4 = 8 * j.val + 4 + w.val % 4
  omega

end Cert.KernelIdeal.Gen

end
-- ==== Proof.KernelIdeal.Masks.lean ====
/- The kernel's masks, which are comparisons of row and column numbers: the matrix that repeats or gathers each
   component over the four heads of a quad, the head that a row of outputs keeps, and the new columns a row of scores
   keeps. -/
module

public import proofs.«01_k».proof.Proof.KernelIdeal.Blocks
public import Idealize.ShloMosaic.Lib.Pointwise
public import Idealize.ShloMosaic.Lib.WordCmp

@[expose] public section

set_option maxRecDepth 16384

noncomputable section

namespace Cert.KernelIdeal.Gen

open Idealize.ShloMosaic Idealize.ShloMosaic.WordCmp

/-- The component that column `w` of a wide row belongs to, as the kernel computes it. -/
theorem word_component : ∀ w : Fin 512,
    Scalar.select
      (IntOp.andi
        (IntOp.cmpi .ne
          (IntOp.subi (BitVec.setWidth 32 (IntOp.cmpi .sgt (BitVec.ofNat 32 w.val) 0#32))
            (BitVec.setWidth 32 (IntOp.cmpi .slt (BitVec.ofNat 32 w.val) 0#32)))
          (Scalar.subi (Scalar.extui (Scalar.cmpi .sgt 4#32 0#32)) (Scalar.extui (Scalar.cmpi .slt 4#32 0#32))))
        (IntOp.cmpi .ne (IntOp.remsi ArithUnit.vector (BitVec.ofNat 32 w.val) 4#32) 0#32))
      (IntOp.subi (IntOp.divsi ArithUnit.vector (BitVec.ofNat 32 w.val) 4#32) 1#32)
      (IntOp.divsi ArithUnit.vector (BitVec.ofNat 32 w.val) 4#32) = BitVec.ofNat 32 (w.val / 4) := by
  decide +kernel

/-- The matrix that carries component `d` to the four columns of a wide row it belongs to. -/
theorem spread_apply (d : Fin 128) (w : Fin 512) :
    k0_pay32 (F := Ideal) (ix2 d w) = if w.val / 4 = d.val then 1 else 0 := by
  pointwise [k0_pay32]
  rw [word_component w, cmpi_eq_ofNat (by omega) (by omega)]
  by_cases h : w.val / 4 = d.val
  · rw [if_pos h, decide_eq_true h]
    show (((1 : ℤ) : ℝ) : EReal) = 1
    norm_num
  · rw [if_neg h, decide_eq_false h]
    show (((0 : ℤ) : ℝ) : EReal) = 0
    norm_num

/-- The head that column `w` of a wide row belongs to, as the second quad's mask computes it, -/
theorem word_head (r : Fin 64) (w : Fin 512) :
    k0_pay67 (iota .tc S64x512 32 [1] iota_S64x512_d1_w32) (ix2 r w) = BitVec.ofNat 32 (w.val % 4) :=
  have h : ∀ w : Fin 512, k0_pay67 (iota .tc S64x512 32 [1] iota_S64x512_d1_w32) (ix2 0 w) = BitVec.ofNat 32 (w.val % 4) := by
    decide +kernel
  h w

/-- and the head that row `r` belongs to. -/
theorem word_row (r : Fin 64) (w : Fin 512) :
    k0_pay66 16#32 k0_pay63 k0_pay64 k0_pay65 0#1 (ix2 r w) = BitVec.ofNat 32 (r.val % 16 / 4) :=
  have h : ∀ r : Fin 64, k0_pay66 16#32 k0_pay63 k0_pay64 k0_pay65 0#1 (ix2 r 0) = BitVec.ofNat 32 (r.val % 16 / 4) := by
    decide +kernel
  h r

/-- The token of row `r` of the scores against the new columns. -/
theorem word_token (r : Fin 128) (c : Fin 32) :
    k0_pay26 (k0_pay23 (iota .tc S128x32 32 [0] iota_S128x32_d0_w32)) (k0_pay24 (iota .tc S128x32 32 [0] iota_S128x32_d0_w32))
      (k0_pay25 (iota .tc S128x32 32 [0] iota_S128x32_d0_w32)) (ix2 r c) = BitVec.ofNat 32 (r.val % 64 / 16) :=
  have h : ∀ r : Fin 128, k0_pay26 (k0_pay23 (iota .tc S128x32 32 [0] iota_S128x32_d0_w32)) (k0_pay24 (iota .tc S128x32 32 [0] iota_S128x32_d0_w32))
      (k0_pay25 (iota .tc S128x32 32 [0] iota_S128x32_d0_w32)) (ix2 r 0) = BitVec.ofNat 32 (r.val % 64 / 16) := by
    decide +kernel
  h r

/-- The head of row `r` of the scores against the new columns. -/
theorem word_row_head (r : Fin 128) (c : Fin 32) :
    k0_pay21 (k0_pay17 (iota .tc S128x32 32 [0] iota_S128x32_d0_w32) (64#32) k0_pay15 k0_pay16 0#32)
      (k0_pay18 (iota .tc S128x32 32 [0] iota_S128x32_d0_w32)) (4#32)
      (k0_pay19 (iota .tc S128x32 32 [0] iota_S128x32_d0_w32))
      (k0_pay20 (iota .tc S128x32 32 [0] iota_S128x32_d0_w32)) 1#32 0#1 (ix2 r c) = BitVec.ofNat 32 (4 * (r.val / 64) + r.val % 16 / 4) :=
  have h : ∀ r : Fin 128, k0_pay21 (k0_pay17 (iota .tc S128x32 32 [0] iota_S128x32_d0_w32) (64#32) k0_pay15 k0_pay16 0#32)
      (k0_pay18 (iota .tc S128x32 32 [0] iota_S128x32_d0_w32)) (4#32)
      (k0_pay19 (iota .tc S128x32 32 [0] iota_S128x32_d0_w32))
      (k0_pay20 (iota .tc S128x32 32 [0] iota_S128x32_d0_w32)) 1#32 0#1 (ix2 r 0) = BitVec.ofNat 32 (4 * (r.val / 64) + r.val % 16 / 4) := by
    decide +kernel
  h r

/-- Whether a row of head `v` meets new column `c`'s head: the columns' heads are their numbers modulo eight. -/
theorem same_head (v : IVec S128x32 32) (r : Fin 128) (c : Fin 32) :
    k0_pay27 (iota .tc S128x32 32 [1] iota_S128x32_d1_w32) v (ix2 r c) = IntOp.cmpi .eq (v (ix2 r c)) (BitVec.ofNat 32 (c.val % 8)) := by
  pointwise [k0_pay27]
  congr 1
  revert c; decide +kernel

/-- Row `r` keeps new column `c`: the column is of the row's head, and of a token not after the row's. -/
def keeps (r : Fin 128) (c : Fin 32) : Prop := 4 * (r.val / 64) + r.val % 16 / 4 = c.val % 8 ∧ c.val / 8 ≤ r.val % 64 / 16

instance (r : Fin 128) (c : Fin 32) : Decidable (keeps r c) := by unfold keeps; infer_instance

/-- A masked score: the scaled score where the row keeps the column, and the constant of the mask elsewhere. -/
theorem masked_apply (x : FVec Ideal S128x32 .f32) (r : Fin 128) (c : Fin 32) :
    k0_pay31 x
      (k0_pay26 (k0_pay23 (iota .tc S128x32 32 [0] iota_S128x32_d0_w32)) (k0_pay24 (iota .tc S128x32 32 [0] iota_S128x32_d0_w32)) (k0_pay25 (iota .tc S128x32 32 [0] iota_S128x32_d0_w32)))
      (k0_pay27 (iota .tc S128x32 32 [1] iota_S128x32_d1_w32)
        (k0_pay21 (k0_pay17 (iota .tc S128x32 32 [0] iota_S128x32_d0_w32) 64#32 k0_pay15 k0_pay16 0#32) (k0_pay18 (iota .tc S128x32 32 [0] iota_S128x32_d0_w32)) 4#32
          (k0_pay19 (iota .tc S128x32 32 [0] iota_S128x32_d0_w32)) (k0_pay20 (iota .tc S128x32 32 [0] iota_S128x32_d0_w32)) 1#32 0#1))
      (k0_pay28 (iota .tc S128x32 32 [1] iota_S128x32_d1_w32)) (k0_pay29 (iota .tc S128x32 32 [1] iota_S128x32_d1_w32)) k0_pay30 (ix2 r c)
      = if keeps r c then x (ix2 r c) else Ideal.ofBits .f32 0xFF800000#32 := by
  have hc : ∀ c : Fin 32, Scalar.select (k0_pay29 (iota .tc S128x32 32 [1] iota_S128x32_d1_w32) (ix2 0 c))
      (IntOp.subi (k0_pay28 (iota .tc S128x32 32 [1] iota_S128x32_d1_w32) (ix2 0 c)) (k0_pay30 (ix2 0 c)))
      (k0_pay28 (iota .tc S128x32 32 [1] iota_S128x32_d1_w32) (ix2 0 c)) = BitVec.ofNat 32 (c.val / 8) := by
    decide +kernel
  have hc' : Scalar.select (k0_pay29 (iota .tc S128x32 32 [1] iota_S128x32_d1_w32) (ix2 r c))
      (IntOp.subi (k0_pay28 (iota .tc S128x32 32 [1] iota_S128x32_d1_w32) (ix2 r c)) (k0_pay30 (ix2 r c)))
      (k0_pay28 (iota .tc S128x32 32 [1] iota_S128x32_d1_w32) (ix2 r c)) = BitVec.ofNat 32 (c.val / 8) := hc c
  pointwise [k0_pay31]
  rw [hc', same_head, word_row_head, word_token, cmpi_eq_ofNat (by omega) (by omega), cmpi_sle_ofNat (by omega) (by omega)]
  by_cases h1 : 4 * (r.val / 64) + r.val % 16 / 4 = c.val % 8
  · by_cases h2 : c.val / 8 ≤ r.val % 64 / 16
    · rw [if_pos (show keeps r c from ⟨h1, h2⟩), decide_eq_true h1, decide_eq_true h2]; rfl
    · rw [if_neg (show ¬ keeps r c from fun h => h2 h.2), decide_eq_true h1, decide_eq_false h2]; rfl
  · rw [if_neg (show ¬ keeps r c from fun h => h1 h.1), decide_eq_false h1]
    by_cases h2 : c.val / 8 ≤ r.val % 64 / 16
    · rw [decide_eq_true h2]; rfl
    · rw [decide_eq_false h2]; rfl

/-- The second quad's outputs: each row keeps its own head's columns, gathered by component. -/
theorem gather1_apply (x : FVec Ideal S64x512 .bf16) (s : Fin 4) (h : Fin 16) (d : Fin 128) :
    k0_pay1 (k0_pay32 (F := Ideal)) x (k0_pay66 16#32 k0_pay63 k0_pay64 k0_pay65 0#1)
        (k0_pay67 (iota .tc S64x512 32 [1] iota_S64x512_d1_w32)) (ix4 (0 : Fin 1) s h d)
      = x (ix2 (⟨s.val * 16 + h.val, by omega⟩ : Fin 64) (⟨4 * d.val + h.val / 4, by omega⟩ : Fin 512)) := by
  pointwise [k0_pay1]
  refine (Finset.sum_eq_single (⟨4 * d.val + h.val / 4, by omega⟩ : Fin 512) (fun w _ hw => ?_) (fun h => absurd (Finset.mem_univ _) h)).trans ?_
  · rw [word_row, word_head, spread_apply, cmpi_eq_ofNat (by omega) (by omega), select_ofBool]
    split
    · rename_i e
      simp only [decide_eq_true_eq] at e
      rw [if_neg, mul_zero]
      intro e2
      refine hw (Fin.ext ?_)
      show w.val = 4 * d.val + h.val / 4
      omega
    · rfl
  · rw [word_row, word_head, spread_apply, cmpi_eq_ofNat (by omega) (by omega), select_ofBool]
    rw [if_pos (by simp only [decide_eq_true_eq]; omega), if_pos (by show (4 * d.val + h.val / 4) / 4 = d.val; omega), mul_one]

/-- The first quad's outputs: each row keeps its own head's columns, gathered by component. -/
theorem gather0_apply (x : FVec Ideal S64x512 .bf16) (s : Fin 4) (h : Fin 16) (d : Fin 128) :
    k0_pay50 (k0_pay32 (F := Ideal)) x (iota .tc S64x512 32 [1] iota_S64x512_d1_w32) k0_pay47 4#32 k0_pay48 k0_pay49 0#32 (ix4 (0 : Fin 1) s h d)
      = x (ix2 (⟨s.val * 16 + h.val, by omega⟩ : Fin 64) (⟨4 * d.val + h.val / 4, by omega⟩ : Fin 512)) :=
  (rfl : k0_pay50 (k0_pay32 (F := Ideal)) x (iota .tc S64x512 32 [1] iota_S64x512_d1_w32) k0_pay47 4#32 k0_pay48 k0_pay49 0#32
    = k0_pay1 (k0_pay32 (F := Ideal)) x (k0_pay66 16#32 k0_pay63 k0_pay64 k0_pay65 0#1)
        (k0_pay67 (iota .tc S64x512 32 [1] iota_S64x512_d1_w32))) ▸ gather1_apply x s h d

end Cert.KernelIdeal.Gen

end
-- ==== Proof.KernelIdeal.Tiles.lean ====
/- What each vector expression of the kernel's body computes, element by element, at the idealization: scores of a chunk,
   running maxima, weights, weighted values and their sums. -/
module

public import proofs.«01_k».proof.Proof.KernelIdeal.Repack
public import proofs.«01_k».proof.Proof.KernelIdeal.Masks

@[expose] public section

set_option maxRecDepth 16384

noncomputable section

namespace Cert.KernelIdeal.Gen

open Idealize.ShloMosaic

theorem off1_eq (k : Fin k0_t1_loop.trips) : k0_off1 k = ![0, 4096 * k.val, 0] := by revert k; decide +kernel
theorem off2_eq (k : Fin k0_t1_loop.trips) : k0_off2 k = ![0, 0, 512 * k.val] := by revert k; decide +kernel
theorem off8_eq (k : Fin k0_t3_loop.trips) : k0_off8 k = ![0, 4, 512 * k.val] := by revert k; decide +kernel

/-- A chunk's codes are the cache's from row `4096 n`, -/
theorem codesAt_apply (x : Vec Ideal S1x32768x128 .i8) (n : Fin 8) (a : Fin 4096) (l : Fin 128) :
    codesAt x n (ix3 (0 : Fin 1) a l) = x (ix3 (0 : Fin 1) (⟨4096 * n.val + a.val, by omega⟩ : Fin 32768) l) := by
  unfold codesAt
  pointwise [off1_eq n]

/-- and its scales those from position `512 n`, of heads 0 to 3 -/
theorem scalesAt0_apply (x : Vec Ideal S1x8x4096 .f32) (n : Fin 8) (a : Fin 4) (l : Fin 512) :
    scalesAt0 x n (ix3 (0 : Fin 1) a l) = x (ix3 (0 : Fin 1) (⟨a.val, by omega⟩ : Fin 8) (⟨512 * n.val + l.val, by omega⟩ : Fin 4096)) := by
  unfold scalesAt0
  pointwise [off2_eq n]

/-- or of heads 4 to 7. -/
theorem scalesAt1_apply (x : Vec Ideal S1x8x4096 .f32) (n : Fin 8) (a : Fin 4) (l : Fin 512) :
    scalesAt1 x n (ix3 (0 : Fin 1) a l) = x (ix3 (0 : Fin 1) (⟨4 + a.val, by omega⟩ : Fin 8) (⟨512 * n.val + l.val, by omega⟩ : Fin 4096)) := by
  unfold scalesAt1
  pointwise [off8_eq n]

/-- Four copies of a quad's scales, one above the other: row `i` is head `i % 4`'s. -/
theorem ladder (s : Vec Ideal S1x4x512 .f32) (i : ℕ) (j : Fin 512) :
    (if h : i % 16 < 4 then s (ix3 (0 : Fin 1) (⟨i % 16, h⟩ : Fin 4) j)
      else if h : i % 16 - 4 < 4 then s (ix3 (0 : Fin 1) (⟨i % 16 - 4, h⟩ : Fin 4) j)
      else if h : i % 16 - 4 - 4 < 4 then s (ix3 (0 : Fin 1) (⟨i % 16 - 4 - 4, h⟩ : Fin 4) j)
      else s (ix3 (0 : Fin 1) (⟨i % 16 - 4 - 4 - 4, by omega⟩ : Fin 4) j))
      = s (ix3 (0 : Fin 1) (⟨i % 4, by omega⟩ : Fin 4) j) := by
  split
  · congr 2; exact Fin.ext (by show i % 16 = i % 4; omega)
  · split
    · congr 2; exact Fin.ext (by show i % 16 - 4 = i % 4; omega)
    · split
      · congr 2; exact Fin.ext (by show i % 16 - 4 - 4 = i % 4; omega)
      · congr 2; exact Fin.ext (by show i % 16 - 4 - 4 - 4 = i % 4; omega)

/-- A cached component as the kernel reads it: the code times its scale, of head `h` at position `t`, component `d`. -/
def cached (x : Vec Ideal S1x32768x128 .i8) (s : Vec Ideal S1x8x4096 .f32) (h : Fin 8) (t : Fin 4096) (d : Fin 128) : EReal :=
  FloatOps.sitofp (F := Ideal) .bf16 (x (ix3 (0 : Fin 1) (⟨8 * t.val + h.val, by omega⟩ : Fin 32768) d)) * s (ix3 (0 : Fin 1) h t)

/-! ## Quad 0 -/

/-- The wide matrix of chunk `n`: row `w` is component `w / 4` of the quad's head `w % 4`. -/
theorem wide0 (x : Vec Ideal S1x32768x128 .i8) (s : Vec Ideal S1x8x4096 .f32) (n : Fin 8) (w j : Fin 512) :
    FloatOps.sitofp (F := Ideal) .bf16 (codesAt x n (ix3 (0 : Fin 1) (⟨8 * j.val + w.val % 4, by omega⟩ : Fin 4096) (⟨w.val / 4, by omega⟩ : Fin 128)))
        * scalesAt0 s n (ix3 (0 : Fin 1) (⟨w.val % 4, by omega⟩ : Fin 4) j)
      = cached x s ⟨w.val % 4, by omega⟩ ⟨512 * n.val + j.val, by omega⟩ ⟨w.val / 4, by omega⟩ := by
  rw [codesAt_apply, scalesAt0_apply]
  unfold cached
  congr 4
  exact Fin.ext (by show 4096 * n.val + (8 * j.val + w.val % 4) = 8 * (512 * n.val + j.val) + (w.val % 4); omega)

/-- A score of chunk `n`. -/
theorem score0_apply (q : FVec Ideal S64x512 .bf16) (x4 : Vec Ideal S1x32768x128 .i8) (x5 : Vec Ideal S1x8x4096 .f32) (n : Fin 8) (r : Fin 64) (j : Fin 512) :
    score0 q x4 x5 n (ix2 r j)
      = (∑ w : Fin 512, q (ix2 r w) * cached x4 x5 ⟨w.val % 4, by omega⟩ ⟨512 * n.val + j.val, by omega⟩ ⟨w.val / 4, by omega⟩)
        * Ideal.ofBits .f32 0x3DB504F3#32 := by
  unfold score0
  pointwise [k0_pay37]
  refine congrArg (fun a : EReal => a * Ideal.ofBits .f32 0x3DB504F3#32) (Finset.sum_congr rfl fun w _ => ?_)
  refine congrArg (fun a : EReal => q (ix2 r w) * a) ?_
  exact (congrArg₂ (fun b e : EReal => b * e) (congrArg (fun b : BitVec 8 => (FloatOps.sitofp (F := Ideal) .bf16 b : EReal)) (repack0_apply (codesAt x4 n) w j))
    (ladder (scalesAt0 x5 n) w.val j)).trans (wide0 x4 x5 n w j)

/-- The running maximum after one more chunk. -/
theorem maxStep0 (q : FVec Ideal S64x512 .bf16) (a : FVec Ideal S64x1 .f32) (x4 : Vec Ideal S1x32768x128 .i8) (x5 : Vec Ideal S1x8x4096 .f32) (n : Fin 8) (r : Fin 64) :
    k0_pay39 q a (codesAt x4 n) (scalesAt0 x5 n) (ix2 r (0 : Fin 1))
      = max (a (ix2 r (0 : Fin 1))) (Finset.univ.fold max (Ideal.ofBits .f32 0xFF800000#32) fun j : Fin 512 => score0 q x4 x5 n (ix2 r j)) := by
  pointwise [k0_pay39]
  rfl

/-- The weighted values after one more chunk. -/
theorem accStep0 (mx : FVec Ideal S64x1 .f32) (p : Vec Ideal S64x512 .f32) (x6 : Vec Ideal S1x32768x128 .i8) (x7 : Vec Ideal S1x8x4096 .f32) (n : Fin 8)
    (a : Vec Ideal S64x512 .f32) (r : Fin 64) (w : Fin 512) :
    k0_pay44 mx p (codesAt x6 n) (scalesAt0 x7 n) a (ix2 r w)
      = a (ix2 r w) + ∑ j : Fin 512, Ideal.exp (p (ix2 r j) - mx (ix2 r (0 : Fin 1)))
          * cached x6 x7 ⟨w.val % 4, by omega⟩ ⟨512 * n.val + j.val, by omega⟩ ⟨w.val / 4, by omega⟩ := by
  pointwise [k0_pay44, k0_pay43]
  refine congrArg (fun b : EReal => a (ix2 r w) + b) (Finset.sum_congr rfl fun j _ => ?_)
  refine congrArg (fun b : EReal => Ideal.exp (p (ix2 r j) - mx (ix2 r (0 : Fin 1))) * b) ?_
  exact (congrArg₂ (fun b e : EReal => b * e) (congrArg (fun b : BitVec 8 => (FloatOps.sitofp (F := Ideal) .bf16 b : EReal)) (repack0_apply (codesAt x6 n) w j))
    (ladder (scalesAt0 x7 n) w.val j)).trans (wide0 x6 x7 n w j)

/-- The sum of weights after one more chunk. -/
theorem sumStep0 (mx a : FVec Ideal S64x1 .f32) (p : Vec Ideal S64x512 .f32) (r : Fin 64) :
    k0_pay45 mx a p (ix2 r (0 : Fin 1)) = a (ix2 r (0 : Fin 1)) + ∑ j : Fin 512, Ideal.exp (p (ix2 r j) - mx (ix2 r (0 : Fin 1))) := by
  pointwise [k0_pay45, k0_pay43]

/-- The new columns' weighted values. -/
theorem accNew0 (s : FVec Ideal S128x32 .f32) (v : FVec Ideal S32x512 .f32) (mx : FVec Ideal S64x1 .f32) (r : Fin 64) (w : Fin 512) :
    k0_pay41 v (rows0 s) mx (ix2 r w)
      = ∑ c : Fin 32, Ideal.exp (s (ix2 (⟨r.val, by omega⟩ : Fin 128) c) - mx (ix2 r (0 : Fin 1))) * v (ix2 c w) := by
  pointwise [k0_pay41, k0_pay40, rows0]

/-- The new columns' sum of weights. -/
theorem sumNew0 (s : FVec Ideal S128x32 .f32) (mx : FVec Ideal S64x1 .f32) (r : Fin 64) :
    k0_pay42 (rows0 s) mx (ix2 r (0 : Fin 1))
      = ∑ c : Fin 32, Ideal.exp (s (ix2 (⟨r.val, by omega⟩ : Fin 128) c) - mx (ix2 r (0 : Fin 1))) := by
  pointwise [k0_pay42, k0_pay40, rows0]

/-- The new columns' maximum. -/
theorem maxNew0 (s : FVec Ideal S128x32 .f32) (r : Fin 64) :
    rowMax0 s (ix2 r (0 : Fin 1))
      = Finset.univ.fold max (Ideal.ofBits .f32 0xFF800000#32) fun c : Fin 32 => s (ix2 (⟨r.val, by omega⟩ : Fin 128) c) := by
  pointwise [rowMax0, rows0]

/-- The quotient. -/
theorem quotient0 (l : FVec Ideal S64x1 .f32) (a : Vec Ideal S64x512 .f32) (r : Fin 64) (w : Fin 512) :
    k0_pay46 l a (ix2 r w) = Ideal.div (a (ix2 r w)) (l (ix2 r (0 : Fin 1))) := by
  pointwise [k0_pay46]

/-! ## Quad 1 -/

/-- The wide matrix of chunk `n`: row `w` is component `w / 4` of the quad's head `w % 4`. -/
theorem wide1 (x : Vec Ideal S1x32768x128 .i8) (s : Vec Ideal S1x8x4096 .f32) (n : Fin 8) (w j : Fin 512) :
    FloatOps.sitofp (F := Ideal) .bf16 (codesAt x n (ix3 (0 : Fin 1) (⟨8 * j.val + 4 + w.val % 4, by omega⟩ : Fin 4096) (⟨w.val / 4, by omega⟩ : Fin 128)))
        * scalesAt1 s n (ix3 (0 : Fin 1) (⟨w.val % 4, by omega⟩ : Fin 4) j)
      = cached x s ⟨4 + w.val % 4, by omega⟩ ⟨512 * n.val + j.val, by omega⟩ ⟨w.val / 4, by omega⟩ := by
  rw [codesAt_apply, scalesAt1_apply]
  unfold cached
  congr 4
  exact Fin.ext (by show 4096 * n.val + (8 * j.val + 4 + w.val % 4) = 8 * (512 * n.val + j.val) + (4 + w.val % 4); omega)

/-- A score of chunk `n`. -/
theorem score1_apply (q : Vec Ideal S1x1x64x512 .bf16) (x4 : Vec Ideal S1x32768x128 .i8) (x5 : Vec Ideal S1x8x4096 .f32) (n : Fin 8) (r : Fin 64) (j : Fin 512) :
    score1 q x4 x5 n (ix2 r j)
      = (∑ w : Fin 512, q (ix4 (0 : Fin 1) (0 : Fin 1) r w) * cached x4 x5 ⟨4 + w.val % 4, by omega⟩ ⟨512 * n.val + j.val, by omega⟩ ⟨w.val / 4, by omega⟩)
        * Ideal.ofBits .f32 0x3DB504F3#32 := by
  unfold score1
  pointwise [k0_pay53]
  refine congrArg (fun a : EReal => a * Ideal.ofBits .f32 0x3DB504F3#32) (Finset.sum_congr rfl fun w _ => ?_)
  refine congrArg (fun a : EReal => q (ix4 (0 : Fin 1) (0 : Fin 1) r w) * a) ?_
  exact (congrArg₂ (fun b e : EReal => b * e) (congrArg (fun b : BitVec 8 => (FloatOps.sitofp (F := Ideal) .bf16 b : EReal)) (repack1_apply (codesAt x4 n) w j))
    (ladder (scalesAt1 x5 n) w.val j)).trans (wide1 x4 x5 n w j)

/-- The running maximum after one more chunk. -/
theorem maxStep1 (q : Vec Ideal S1x1x64x512 .bf16) (a : FVec Ideal S64x1 .f32) (x4 : Vec Ideal S1x32768x128 .i8) (x5 : Vec Ideal S1x8x4096 .f32) (n : Fin 8) (r : Fin 64) :
    k0_pay55 q a (codesAt x4 n) (scalesAt1 x5 n) (ix2 r (0 : Fin 1))
      = max (a (ix2 r (0 : Fin 1))) (Finset.univ.fold max (Ideal.ofBits .f32 0xFF800000#32) fun j : Fin 512 => score1 q x4 x5 n (ix2 r j)) := by
  pointwise [k0_pay55]
  rfl

/-- The weighted values after one more chunk. -/
theorem accStep1 (mx : FVec Ideal S64x1 .f32) (p : Vec Ideal S64x512 .f32) (x6 : Vec Ideal S1x32768x128 .i8) (x7 : Vec Ideal S1x8x4096 .f32) (n : Fin 8)
    (a : Vec Ideal S64x512 .f32) (r : Fin 64) (w : Fin 512) :
    k0_pay60 mx p (codesAt x6 n) (scalesAt1 x7 n) a (ix2 r w)
      = a (ix2 r w) + ∑ j : Fin 512, Ideal.exp (p (ix2 r j) - mx (ix2 r (0 : Fin 1)))
          * cached x6 x7 ⟨4 + w.val % 4, by omega⟩ ⟨512 * n.val + j.val, by omega⟩ ⟨w.val / 4, by omega⟩ := by
  pointwise [k0_pay60, k0_pay59]
  refine congrArg (fun b : EReal => a (ix2 r w) + b) (Finset.sum_congr rfl fun j _ => ?_)
  refine congrArg (fun b : EReal => Ideal.exp (p (ix2 r j) - mx (ix2 r (0 : Fin 1))) * b) ?_
  exact (congrArg₂ (fun b e : EReal => b * e) (congrArg (fun b : BitVec 8 => (FloatOps.sitofp (F := Ideal) .bf16 b : EReal)) (repack1_apply (codesAt x6 n) w j))
    (ladder (scalesAt1 x7 n) w.val j)).trans (wide1 x6 x7 n w j)

/-- The sum of weights after one more chunk. -/
theorem sumStep1 (mx a : FVec Ideal S64x1 .f32) (p : Vec Ideal S64x512 .f32) (r : Fin 64) :
    k0_pay61 mx a p (ix2 r (0 : Fin 1)) = a (ix2 r (0 : Fin 1)) + ∑ j : Fin 512, Ideal.exp (p (ix2 r j) - mx (ix2 r (0 : Fin 1))) := by
  pointwise [k0_pay61, k0_pay59]

/-- The new columns' weighted values. -/
theorem accNew1 (s : FVec Ideal S128x32 .f32) (v : FVec Ideal S32x512 .f32) (mx : FVec Ideal S64x1 .f32) (r : Fin 64) (w : Fin 512) :
    k0_pay57 s v mx (ix2 r w)
      = ∑ c : Fin 32, Ideal.exp (s (ix2 (⟨64 + r.val, by omega⟩ : Fin 128) c) - mx (ix2 r (0 : Fin 1))) * v (ix2 c w) := by
  pointwise [k0_pay57, k0_pay56, k0_pay51]

/-- The new columns' sum of weights. -/
theorem sumNew1 (s : FVec Ideal S128x32 .f32) (mx : FVec Ideal S64x1 .f32) (r : Fin 64) :
    k0_pay58 s mx (ix2 r (0 : Fin 1))
      = ∑ c : Fin 32, Ideal.exp (s (ix2 (⟨64 + r.val, by omega⟩ : Fin 128) c) - mx (ix2 r (0 : Fin 1))) := by
  pointwise [k0_pay58, k0_pay56, k0_pay51]

/-- The new columns' maximum. -/
theorem maxNew1 (s : FVec Ideal S128x32 .f32) (r : Fin 64) :
    k0_pay52 s (ix2 r (0 : Fin 1))
      = Finset.univ.fold max (Ideal.ofBits .f32 0xFF800000#32) fun c : Fin 32 => s (ix2 (⟨64 + r.val, by omega⟩ : Fin 128) c) := by
  pointwise [k0_pay52, k0_pay51]

/-- The quotient. -/
theorem quotient1 (l : FVec Ideal S64x1 .f32) (a : Vec Ideal S64x512 .f32) (r : Fin 64) (w : Fin 512) :
    k0_pay62 l a (ix2 r w) = Ideal.div (a (ix2 r w)) (l (ix2 r (0 : Fin 1))) := by
  pointwise [k0_pay62]

/-! ## The new rows -/

/-- A new component: the rounded, clipped value times its row's scale. -/
def fresh (x : Vec Ideal S1x32x128 .bf16) (c : Fin 32) (d : Fin 128) : EReal := k0_pay4 x (ix2 c d) * k0_pay3 x (ix2 c (0 : Fin 1))

/-- The masked scores of the query rows against the new rows. -/
theorem newScores_apply (x1 : Vec Ideal S1x128x128 .bf16) (x2 : Vec Ideal S1x32x128 .bf16) (r : Fin 128) (c : Fin 32) :
    newScores x1 x2 (ix2 r c) = if keeps r c then (∑ d : Fin 128, x1 (ix3 (0 : Fin 1) r d) * fresh x2 c d) * Ideal.ofBits .f32 0x3DB504F3#32
      else Ideal.ofBits .f32 0xFF800000#32 := by
  unfold newScores
  rw [masked_apply]
  pointwise [k0_pay14, fresh]

/-- The new values, each component repeated over the four heads of a quad. -/
theorem newValues_apply (x3 : Vec Ideal S1x32x128 .bf16) (c : Fin 32) (w : Fin 512) :
    newValues x3 (ix2 c w) = fresh x3 c ⟨w.val / 4, by omega⟩ := by
  unfold newValues
  pointwise [k0_pay33]
  refine (Finset.sum_eq_single (⟨w.val / 4, by omega⟩ : Fin 128) (fun d _ hd => ?_) (fun h => absurd (Finset.mem_univ _) h)).trans ?_
  · rw [spread_apply, if_neg (fun e => hd (Fin.ext e.symm)), mul_zero]
  · rw [spread_apply, if_pos rfl, mul_one]
    pointwise [k0_pay13]
    rfl

end Cert.KernelIdeal.Gen

end
-- ==== Proof.KernelIdeal.Attend.lean ====
/- What one grid point computes, as sums over its whole blocks: the eight chunks of each loop are put together, so that a
   row's maximum, its sum of weights and its weighted values run over the 32 new rows and all 4096 cached positions, and an
   element of the block of attention outputs is their quotient. -/
module

public import proofs.«01_k».proof.Proof.KernelIdeal.Tiles

@[expose] public section

set_option maxRecDepth 16384

noncomputable section

namespace Cert.KernelIdeal.Gen

open Idealize.ShloMosaic

/-- The mask's constant and the reductions' initial value is the least extended real. -/
theorem neg_inf : Ideal.ofBits .f32 0xFF800000#32 = ⊥ := by
  rfl

/-- A maximum from the least extended real is the supremum. -/
theorem fold_max_bot {n : ℕ} (f : Fin n → EReal) : Finset.univ.fold max (Ideal.ofBits .f32 0xFF800000#32) f = Finset.univ.sup f := by
  rw [neg_inf]; rfl

/-- Eight chunks of 512 are the 4096 positions: sums, -/
theorem sum_chunks (f : Fin 4096 → EReal) :
    (∑ k : Fin 8, ∑ j : Fin 512, f ⟨512 * k.val + j.val, by omega⟩) = ∑ t : Fin 4096, f t := by
  rw [← Equiv.sum_comp (finProdFinEquiv : Fin 8 × Fin 512 ≃ Fin 4096), Fintype.sum_prod_type]
  refine Finset.sum_congr rfl fun k _ => Finset.sum_congr rfl fun j _ => congrArg f (Fin.ext ?_)
  show 512 * k.val + j.val = j.val + 512 * k.val
  omega

/-- and suprema. -/
theorem sup_chunks (f : Fin 4096 → EReal) :
    (Finset.univ.sup fun k : Fin 8 => Finset.univ.sup fun j : Fin 512 => f ⟨512 * k.val + j.val, by omega⟩) = Finset.univ.sup f := by
  apply le_antisymm
  · exact Finset.sup_le fun k _ => Finset.sup_le fun j _ => Finset.le_sup (f := f) (Finset.mem_univ _)
  · refine Finset.sup_le fun t _ => ?_
    refine le_trans ?_ (Finset.le_sup (f := fun k : Fin 8 => Finset.univ.sup fun j : Fin 512 => f ⟨512 * k.val + j.val, by omega⟩) (Finset.mem_univ (⟨t.val / 512, by omega⟩ : Fin 8)))
    refine le_trans (le_of_eq (congrArg f (Fin.ext ?_))) (Finset.le_sup (f := fun j : Fin 512 => f ⟨512 * (t.val / 512) + j.val, by omega⟩) (Finset.mem_univ (⟨t.val % 512, by omega⟩ : Fin 512)))
    show t.val = 512 * (t.val / 512) + t.val % 512
    omega

/-- One element of attention over new scores `sn` with new values `vn` and cached scores `sc` with cached values `vc`:
    the weights are the exponentials of the scores less their maximum, and the result is the weighted values' sum over the weights' sum. -/
def attend (sn : Fin 32 → EReal) (sc : Fin 4096 → EReal) (vn : Fin 32 → EReal) (vc : Fin 4096 → EReal) : EReal :=
  Ideal.div
    ((∑ c, Ideal.exp (sn c - max (Finset.univ.sup sn) (Finset.univ.sup sc)) * vn c) + ∑ t, Ideal.exp (sc t - max (Finset.univ.sup sn) (Finset.univ.sup sc)) * vc t)
    ((∑ c, Ideal.exp (sn c - max (Finset.univ.sup sn) (Finset.univ.sup sc))) + ∑ t, Ideal.exp (sc t - max (Finset.univ.sup sn) (Finset.univ.sup sc)))

/-! ## Quad 0 -/

/-- The score of query row `r` against cached position `t`, over a wide row of the query block. -/
def cachedScore0 (x0 : Vec Ideal S1x2x64x512 .bf16) (x4 : Vec Ideal S1x32768x128 .i8) (x5 : Vec Ideal S1x8x4096 .f32) (r : Fin 64) (t : Fin 4096) : EReal :=
  (∑ w : Fin 512, x0 (ix4 (0 : Fin 1) (0 : Fin 2) r w) * cached x4 x5 ⟨w.val % 4, by omega⟩ t ⟨w.val / 4, by omega⟩) * Ideal.ofBits .f32 0x3DB504F3#32

theorem score0_eq (x0 : Vec Ideal S1x2x64x512 .bf16) (x4 : Vec Ideal S1x32768x128 .i8) (x5 : Vec Ideal S1x8x4096 .f32) (n : Fin 8) (r : Fin 64) (j : Fin 512) :
    score0 (query0 x0) x4 x5 n (ix2 r j) = cachedScore0 x0 x4 x5 r ⟨512 * n.val + j.val, by omega⟩ := by
  rw [score0_apply]
  unfold cachedScore0 query0
  refine congrArg (fun a : EReal => a * Ideal.ofBits .f32 0x3DB504F3#32) (Finset.sum_congr rfl fun w _ => ?_)
  refine congrArg (fun a : EReal => a * _) ?_
  pointwise [k0_pay34]

/-- A row's maximum over the new rows and every cached position. -/
theorem maxAll0_apply (x0 : Vec Ideal S1x2x64x512 .bf16) (x1 : Vec Ideal S1x128x128 .bf16) (x2 : Vec Ideal S1x32x128 .bf16) (x4 : Vec Ideal S1x32768x128 .i8) (x5 : Vec Ideal S1x8x4096 .f32) (r : Fin 64) :
    maxAll0 x0 x1 x2 x4 x5 (ix2 r (0 : Fin 1))
      = max (Finset.univ.sup fun c : Fin 32 => newScores x1 x2 (ix2 (⟨r.val, by omega⟩ : Fin 128) c)) (Finset.univ.sup (cachedScore0 x0 x4 x5 r)) := by
  unfold maxAll0
  rw [← sup_chunks]
  simp only [max0, Nat.reduceLT, ↓reduceDIte, maxStep0, maxNew0, fold_max_bot, score0_eq]
  simp only [max_assoc]
  congr 1
  apply le_antisymm
  · have h : ∀ k : Fin 8, (Finset.univ.sup fun j : Fin 512 => cachedScore0 x0 x4 x5 r ⟨512 * k.val + j.val, by omega⟩) ≤ Finset.univ.sup fun k : Fin 8 => Finset.univ.sup fun j : Fin 512 => cachedScore0 x0 x4 x5 r ⟨512 * k.val + j.val, by omega⟩ := fun k =>
      Finset.le_sup (f := fun k : Fin 8 => Finset.univ.sup fun j : Fin 512 => cachedScore0 x0 x4 x5 r ⟨512 * k.val + j.val, by omega⟩) (Finset.mem_univ k)
    exact max_le (h 0) (max_le (h 1) (max_le (h 2) (max_le (h 3) (max_le (h 4) (max_le (h 5) (max_le (h 6) (h 7)))))))
  · refine Finset.sup_le fun k _ => ?_
    fin_cases k
    all_goals simp only [le_max_iff]
    · exact Or.inl le_rfl
    · exact Or.inr (Or.inl le_rfl)
    · exact Or.inr (Or.inr (Or.inl le_rfl))
    · exact Or.inr (Or.inr (Or.inr (Or.inl le_rfl)))
    · exact Or.inr (Or.inr (Or.inr (Or.inr (Or.inl le_rfl))))
    · exact Or.inr (Or.inr (Or.inr (Or.inr (Or.inr (Or.inl le_rfl)))))
    · exact Or.inr (Or.inr (Or.inr (Or.inr (Or.inr (Or.inr (Or.inl le_rfl))))))
    · exact Or.inr (Or.inr (Or.inr (Or.inr (Or.inr (Or.inr (Or.inr le_rfl))))))

/-- A row's sum of weights. -/
theorem sumAll0_apply (x0 : Vec Ideal S1x2x64x512 .bf16) (x1 : Vec Ideal S1x128x128 .bf16) (x2 : Vec Ideal S1x32x128 .bf16) (x4 : Vec Ideal S1x32768x128 .i8) (x5 : Vec Ideal S1x8x4096 .f32) (r : Fin 64) :
    sumAll0 x0 x1 x2 x4 x5 (ix2 r (0 : Fin 1))
      = (∑ c : Fin 32, Ideal.exp (newScores x1 x2 (ix2 (⟨r.val, by omega⟩ : Fin 128) c) - maxAll0 x0 x1 x2 x4 x5 (ix2 r (0 : Fin 1))))
        + ∑ t : Fin 4096, Ideal.exp (cachedScore0 x0 x4 x5 r t - maxAll0 x0 x1 x2 x4 x5 (ix2 r (0 : Fin 1))) := by
  unfold sumAll0
  rw [← sum_chunks]
  simp only [sum0, Nat.reduceLT, ↓reduceDIte, sumStep0, sumNew0, score0_eq, Fin.sum_univ_eight, add_assoc]
  rfl

/-- A row's weighted values, at a column of the wide row. -/
theorem accAll0_apply (x0 : Vec Ideal S1x2x64x512 .bf16) (x1 : Vec Ideal S1x128x128 .bf16) (x2 : Vec Ideal S1x32x128 .bf16) (x3 : Vec Ideal S1x32x128 .bf16) (x4 : Vec Ideal S1x32768x128 .i8) (x5 : Vec Ideal S1x8x4096 .f32) (x6 : Vec Ideal S1x32768x128 .i8) (x7 : Vec Ideal S1x8x4096 .f32) (r : Fin 64) (w : Fin 512) :
    accAll0 x0 x1 x2 x3 x4 x5 x6 x7 (ix2 r w)
      = (∑ c : Fin 32, Ideal.exp (newScores x1 x2 (ix2 (⟨r.val, by omega⟩ : Fin 128) c) - maxAll0 x0 x1 x2 x4 x5 (ix2 r (0 : Fin 1))) * fresh x3 c ⟨w.val / 4, by omega⟩)
        + ∑ t : Fin 4096, Ideal.exp (cachedScore0 x0 x4 x5 r t - maxAll0 x0 x1 x2 x4 x5 (ix2 r (0 : Fin 1))) * cached x6 x7 ⟨w.val % 4, by omega⟩ t ⟨w.val / 4, by omega⟩ := by
  unfold accAll0
  rw [← sum_chunks]
  simp only [acc0, Nat.reduceLT, ↓reduceDIte, accStep0, accNew0, newValues_apply, score0_eq, Fin.sum_univ_eight, add_assoc]
  rfl

/-- An element of the quad's outputs. -/
theorem yBlk0_apply (x0 : Vec Ideal S1x2x64x512 .bf16) (x1 : Vec Ideal S1x128x128 .bf16) (x2 : Vec Ideal S1x32x128 .bf16) (x3 : Vec Ideal S1x32x128 .bf16) (x4 : Vec Ideal S1x32768x128 .i8) (x5 : Vec Ideal S1x8x4096 .f32) (x6 : Vec Ideal S1x32768x128 .i8) (x7 : Vec Ideal S1x8x4096 .f32) (s : Fin 4) (h : Fin 16) (d : Fin 128) :
    yBlk0 x0 x1 x2 x3 x4 x5 x6 x7 (ix4 (0 : Fin 1) s h d)
      = attend (fun c => newScores x1 x2 (ix2 (⟨(s.val * 16 + h.val), by omega⟩ : Fin 128) c)) (cachedScore0 x0 x4 x5 ⟨s.val * 16 + h.val, by omega⟩)
          (fun c => fresh x3 c d) (fun t => cached x6 x7 ⟨h.val / 4, by omega⟩ t d) := by
  have e1 : ∀ p, (⟨(4 * d.val + h.val / 4) / 4, p⟩ : Fin 128) = d := fun p => Fin.ext (by show (4 * d.val + h.val / 4) / 4 = d.val; omega)
  have e2 : ∀ p, (⟨(4 * d.val + h.val / 4) % 4, p⟩ : Fin 8) = ⟨h.val / 4, by omega⟩ := fun p => Fin.ext (by show (4 * d.val + h.val / 4) % 4 = h.val / 4; omega)
  unfold yBlk0
  rw [gather0_apply, quotient0, accAll0_apply, sumAll0_apply, maxAll0_apply]
  unfold attend
  simp only [e1, e2]

/-! ## Quad 1 -/

/-- The score of query row `r` against cached position `t`, over a wide row of the query block. -/
def cachedScore1 (x0 : Vec Ideal S1x2x64x512 .bf16) (x4 : Vec Ideal S1x32768x128 .i8) (x5 : Vec Ideal S1x8x4096 .f32) (r : Fin 64) (t : Fin 4096) : EReal :=
  (∑ w : Fin 512, x0 (ix4 (0 : Fin 1) (1 : Fin 2) r w) * cached x4 x5 ⟨4 + w.val % 4, by omega⟩ t ⟨w.val / 4, by omega⟩) * Ideal.ofBits .f32 0x3DB504F3#32

theorem score1_eq (x0 : Vec Ideal S1x2x64x512 .bf16) (x4 : Vec Ideal S1x32768x128 .i8) (x5 : Vec Ideal S1x8x4096 .f32) (n : Fin 8) (r : Fin 64) (j : Fin 512) :
    score1 (query1 x0) x4 x5 n (ix2 r j) = cachedScore1 x0 x4 x5 r ⟨512 * n.val + j.val, by omega⟩ := by
  rw [score1_apply]
  unfold cachedScore1 query1
  refine congrArg (fun a : EReal => a * Ideal.ofBits .f32 0x3DB504F3#32) (Finset.sum_congr rfl fun w _ => ?_)
  refine congrArg (fun a : EReal => a * _) ?_
  pointwise [k0_pay34]

/-- A row's maximum over the new rows and every cached position. -/
theorem maxAll1_apply (x0 : Vec Ideal S1x2x64x512 .bf16) (x1 : Vec Ideal S1x128x128 .bf16) (x2 : Vec Ideal S1x32x128 .bf16) (x4 : Vec Ideal S1x32768x128 .i8) (x5 : Vec Ideal S1x8x4096 .f32) (r : Fin 64) :
    maxAll1 x0 x1 x2 x4 x5 (ix2 r (0 : Fin 1))
      = max (Finset.univ.sup fun c : Fin 32 => newScores x1 x2 (ix2 (⟨64 + r.val, by omega⟩ : Fin 128) c)) (Finset.univ.sup (cachedScore1 x0 x4 x5 r)) := by
  unfold maxAll1
  rw [← sup_chunks]
  simp only [max1, Nat.reduceLT, ↓reduceDIte, maxStep1, maxNew1, fold_max_bot, score1_eq]
  simp only [max_assoc]
  congr 1
  apply le_antisymm
  · have h : ∀ k : Fin 8, (Finset.univ.sup fun j : Fin 512 => cachedScore1 x0 x4 x5 r ⟨512 * k.val + j.val, by omega⟩) ≤ Finset.univ.sup fun k : Fin 8 => Finset.univ.sup fun j : Fin 512 => cachedScore1 x0 x4 x5 r ⟨512 * k.val + j.val, by omega⟩ := fun k =>
      Finset.le_sup (f := fun k : Fin 8 => Finset.univ.sup fun j : Fin 512 => cachedScore1 x0 x4 x5 r ⟨512 * k.val + j.val, by omega⟩) (Finset.mem_univ k)
    exact max_le (h 0) (max_le (h 1) (max_le (h 2) (max_le (h 3) (max_le (h 4) (max_le (h 5) (max_le (h 6) (h 7)))))))
  · refine Finset.sup_le fun k _ => ?_
    fin_cases k
    all_goals simp only [le_max_iff]
    · exact Or.inl le_rfl
    · exact Or.inr (Or.inl le_rfl)
    · exact Or.inr (Or.inr (Or.inl le_rfl))
    · exact Or.inr (Or.inr (Or.inr (Or.inl le_rfl)))
    · exact Or.inr (Or.inr (Or.inr (Or.inr (Or.inl le_rfl))))
    · exact Or.inr (Or.inr (Or.inr (Or.inr (Or.inr (Or.inl le_rfl)))))
    · exact Or.inr (Or.inr (Or.inr (Or.inr (Or.inr (Or.inr (Or.inl le_rfl))))))
    · exact Or.inr (Or.inr (Or.inr (Or.inr (Or.inr (Or.inr (Or.inr le_rfl))))))

/-- A row's sum of weights. -/
theorem sumAll1_apply (x0 : Vec Ideal S1x2x64x512 .bf16) (x1 : Vec Ideal S1x128x128 .bf16) (x2 : Vec Ideal S1x32x128 .bf16) (x4 : Vec Ideal S1x32768x128 .i8) (x5 : Vec Ideal S1x8x4096 .f32) (r : Fin 64) :
    sumAll1 x0 x1 x2 x4 x5 (ix2 r (0 : Fin 1))
      = (∑ c : Fin 32, Ideal.exp (newScores x1 x2 (ix2 (⟨64 + r.val, by omega⟩ : Fin 128) c) - maxAll1 x0 x1 x2 x4 x5 (ix2 r (0 : Fin 1))))
        + ∑ t : Fin 4096, Ideal.exp (cachedScore1 x0 x4 x5 r t - maxAll1 x0 x1 x2 x4 x5 (ix2 r (0 : Fin 1))) := by
  unfold sumAll1
  rw [← sum_chunks]
  simp only [sum1, Nat.reduceLT, ↓reduceDIte, sumStep1, sumNew1, score1_eq, Fin.sum_univ_eight, add_assoc]
  rfl

/-- A row's weighted values, at a column of the wide row. -/
theorem accAll1_apply (x0 : Vec Ideal S1x2x64x512 .bf16) (x1 : Vec Ideal S1x128x128 .bf16) (x2 : Vec Ideal S1x32x128 .bf16) (x3 : Vec Ideal S1x32x128 .bf16) (x4 : Vec Ideal S1x32768x128 .i8) (x5 : Vec Ideal S1x8x4096 .f32) (x6 : Vec Ideal S1x32768x128 .i8) (x7 : Vec Ideal S1x8x4096 .f32) (r : Fin 64) (w : Fin 512) :
    accAll1 x0 x1 x2 x3 x4 x5 x6 x7 (ix2 r w)
      = (∑ c : Fin 32, Ideal.exp (newScores x1 x2 (ix2 (⟨64 + r.val, by omega⟩ : Fin 128) c) - maxAll1 x0 x1 x2 x4 x5 (ix2 r (0 : Fin 1))) * fresh x3 c ⟨w.val / 4, by omega⟩)
        + ∑ t : Fin 4096, Ideal.exp (cachedScore1 x0 x4 x5 r t - maxAll1 x0 x1 x2 x4 x5 (ix2 r (0 : Fin 1))) * cached x6 x7 ⟨4 + w.val % 4, by omega⟩ t ⟨w.val / 4, by omega⟩ := by
  unfold accAll1
  rw [← sum_chunks]
  simp only [acc1, Nat.reduceLT, ↓reduceDIte, accStep1, accNew1, newValues_apply, score1_eq, Fin.sum_univ_eight, add_assoc]
  rfl

/-- An element of the quad's outputs. -/
theorem yBlk1_apply (x0 : Vec Ideal S1x2x64x512 .bf16) (x1 : Vec Ideal S1x128x128 .bf16) (x2 : Vec Ideal S1x32x128 .bf16) (x3 : Vec Ideal S1x32x128 .bf16) (x4 : Vec Ideal S1x32768x128 .i8) (x5 : Vec Ideal S1x8x4096 .f32) (x6 : Vec Ideal S1x32768x128 .i8) (x7 : Vec Ideal S1x8x4096 .f32) (s : Fin 4) (h : Fin 16) (d : Fin 128) :
    yBlk1 x0 x1 x2 x3 x4 x5 x6 x7 (ix4 (0 : Fin 1) s h d)
      = attend (fun c => newScores x1 x2 (ix2 (⟨64 + (s.val * 16 + h.val), by omega⟩ : Fin 128) c)) (cachedScore1 x0 x4 x5 ⟨s.val * 16 + h.val, by omega⟩)
          (fun c => fresh x3 c d) (fun t => cached x6 x7 ⟨4 + h.val / 4, by omega⟩ t d) := by
  have e1 : ∀ p, (⟨(4 * d.val + h.val / 4) / 4, p⟩ : Fin 128) = d := fun p => Fin.ext (by show (4 * d.val + h.val / 4) / 4 = d.val; omega)
  have e2 : ∀ p, (⟨4 + (4 * d.val + h.val / 4) % 4, p⟩ : Fin 8) = ⟨4 + h.val / 4, by omega⟩ := fun p => Fin.ext (by show 4 + (4 * d.val + h.val / 4) % 4 = 4 + h.val / 4; omega)
  unfold yBlk1
  rw [gather1_apply, quotient1, accAll1_apply, sumAll1_apply, maxAll1_apply]
  unfold attend
  simp only [e1, e2]

end Cert.KernelIdeal.Gen

end
-- ==== Proof.KernelIdeal.Inputs.lean ====
/- The arrays the pipeline reads, as the program's arguments: what each input block holds at an index of its own, through
   the host's reshapes and transposes. Row `64 Q + r` of a batch entry's queries is token `r / 16` and query head
   `16 Q + r % 16`; row `8 p + h` of a cache is position `p` and head `h`. -/
module

public import proofs.«01_k».proof.Proof.KernelIdeal.Frame
public import proofs.«01_k».proof.Proof.KernelIdeal.Attend
public import Idealize.ShloMosaic.Lib.Pipeline.ValueKit
public import Idealize.ShloMosaic.Lib.Pointwise

@[expose] public section

set_option maxRecDepth 16384

noncomputable section

namespace Cert.KernelIdeal.Gen

open Idealize.ShloMosaic Idealize.ShloMosaic.TcCoe Idealize.SL.Sem
open Idealize.ShloMosaic.WordCmp
open Idealize.ShloMosaic.Pipeline (Dat)

variable (m : (ℓ : Loc nD τ sig) → Buf (Elt Ideal) ℓ)

/-- Every window's block at grid point `t` is batch entry `t`'s. -/
theorem idx : ∀ t : Fin cfg0.N, t.val < 16
    ∧ win0_0.index t = ![t.val, 0, 0, 0] ∧ win0_1.index t = ![t.val, 0, 0] ∧ win0_2.index t = ![t.val, 0, 0] ∧ win0_3.index t = ![t.val, 0, 0]
    ∧ win0_4.index t = ![t.val, 0, 0] ∧ win0_5.index t = ![t.val, 0, 0] ∧ win0_6.index t = ![t.val, 0, 0] ∧ win0_7.index t = ![t.val, 0, 0]
    ∧ win0_8.index t = ![t.val, 0, 0, 0] ∧ win0_9.index t = ![t.val, 0, 0] ∧ win0_10.index t = ![t.val, 0, 0] ∧ win0_11.index t = ![t.val, 0, 0]
    ∧ win0_12.index t = ![t.val, 0, 0] :=
  (by decide +kernel : ∀ t : Fin grid0.N, _)

/-! ## The arguments -/

/-- The queries, -/
abbrev argX (c : Dev nD) : FVec Ideal S16x4x4096 .bf16 := m ((c : Thread nD τ).loc main_arg0)
/-- the new keys, -/
abbrev argK (c : Dev nD) : FVec Ideal S16x4x8x128 .bf16 := m ((c : Thread nD τ).loc main_arg1)
/-- the new values, -/
abbrev argV (c : Dev nD) : FVec Ideal S16x4x8x128 .bf16 := m ((c : Thread nD τ).loc main_arg2)
/-- the cached keys' codes -/
abbrev argKC (c : Dev nD) : Vec Ideal S16x4096x8x128 .i8 := m ((c : Thread nD τ).loc main_arg3)
/-- and scales, -/
abbrev argKS (c : Dev nD) : FVec Ideal S16x4096x8 .f32 := m ((c : Thread nD τ).loc main_arg4)
/-- the cached values' codes -/
abbrev argVC (c : Dev nD) : Vec Ideal S16x4096x8x128 .i8 := m ((c : Thread nD τ).loc main_arg5)
/-- and scales. -/
abbrev argVS (c : Dev nD) : FVec Ideal S16x4096x8 .f32 := m ((c : Thread nD τ).loc main_arg6)

/-! ## The blocks -/

/-- The block of new keys. -/
theorem blk2 (c : Dev nD) (t : Fin cfg0.N) (b : Fin 16) (hb : b.val = t.val) (n : Fin 32) (d : Fin 128) :
    (show Vec Ideal S1x32x128 .bf16 from iblk m c 2 t) (ix3 (0 : Fin 1) n d) = argK m c (ix4 b (⟨n.val / 8, by omega⟩ : Fin 4) (⟨n.val % 8, by omega⟩ : Fin 8) d) := by
  blk_simp [iblk, idx t]
  entry_read
  pointwise
  blk_ext [idx t]

/-- The block of new values. -/
theorem blk3 (c : Dev nD) (t : Fin cfg0.N) (b : Fin 16) (hb : b.val = t.val) (n : Fin 32) (d : Fin 128) :
    (show Vec Ideal S1x32x128 .bf16 from iblk m c 3 t) (ix3 (0 : Fin 1) n d) = argV m c (ix4 b (⟨n.val / 8, by omega⟩ : Fin 4) (⟨n.val % 8, by omega⟩ : Fin 8) d) := by
  blk_simp [iblk, idx t]
  entry_read
  pointwise
  blk_ext [idx t]

/-- The block of cached keys' codes. -/
theorem blk4 (c : Dev nD) (t : Fin cfg0.N) (b : Fin 16) (hb : b.val = t.val) (p : Fin 4096) (h : Fin 8) (d : Fin 128) :
    (show Vec Ideal S1x32768x128 .i8 from iblk m c 4 t) (ix3 (0 : Fin 1) (⟨8 * p.val + h.val, by omega⟩ : Fin 32768) d) = argKC m c (ix4 b p h d) := by
  blk_simp [iblk, idx t]
  entry_read
  pointwise
  blk_ext [idx t]

/-- The block of cached values' codes. -/
theorem blk6 (c : Dev nD) (t : Fin cfg0.N) (b : Fin 16) (hb : b.val = t.val) (p : Fin 4096) (h : Fin 8) (d : Fin 128) :
    (show Vec Ideal S1x32768x128 .i8 from iblk m c 6 t) (ix3 (0 : Fin 1) (⟨8 * p.val + h.val, by omega⟩ : Fin 32768) d) = argVC m c (ix4 b p h d) := by
  blk_simp [iblk, idx t]
  entry_read
  pointwise
  blk_ext [idx t]

/-- The block of cached keys' scales. -/
theorem blk5 (c : Dev nD) (t : Fin cfg0.N) (b : Fin 16) (hb : b.val = t.val) (p : Fin 4096) (h : Fin 8) :
    (show Vec Ideal S1x8x4096 .f32 from iblk m c 5 t) (ix3 (0 : Fin 1) h p) = argKS m c (ix3 b p h) := by
  blk_simp [iblk, idx t]
  entry_read
  pointwise
  blk_ext [idx t]

/-- The block of cached values' scales. -/
theorem blk7 (c : Dev nD) (t : Fin cfg0.N) (b : Fin 16) (hb : b.val = t.val) (p : Fin 4096) (h : Fin 8) :
    (show Vec Ideal S1x8x4096 .f32 from iblk m c 7 t) (ix3 (0 : Fin 1) h p) = argVS m c (ix3 b p h) := by
  blk_simp [iblk, idx t]
  entry_read
  pointwise
  blk_ext [idx t]

/-- The block of query rows. -/
theorem blk1 (c : Dev nD) (t : Fin cfg0.N) (b : Fin 16) (hb : b.val = t.val) (Q : Fin 2) (r : Fin 64) (d : Fin 128) :
    (show Vec Ideal S1x128x128 .bf16 from iblk m c 1 t) (ix3 (0 : Fin 1) (⟨64 * Q.val + r.val, by omega⟩ : Fin 128) d)
      = argX m c (ix3 b (⟨r.val / 16, by omega⟩ : Fin 4) (⟨(16 * Q.val + r.val % 16) * 128 + d.val, by omega⟩ : Fin 4096)) := by
  blk_simp [iblk, idx t]
  entry_read
  pointwise
  blk_ext [idx t]

/-- The block of wide query rows: row `r`'s element `w / 4` in the columns of its own head, zero in the others'. -/
theorem blk0 (c : Dev nD) (t : Fin cfg0.N) (b : Fin 16) (hb : b.val = t.val) (Q : Fin 2) (r : Fin 64) (w : Fin 512) :
    (show Vec Ideal S1x2x64x512 .bf16 from iblk m c 0 t) (ix4 (0 : Fin 1) Q r w)
      = argX m c (ix3 b (⟨r.val / 16, by omega⟩ : Fin 4) (⟨(16 * Q.val + r.val % 16) * 128 + w.val / 4, by omega⟩ : Fin 4096))
        * (if r.val % 16 / 4 = w.val % 4 then 1 else 0) := by
  blk_simp [iblk, idx t]
  entry_read
  pointwise
  refine congrArg₂ (fun a b : EReal => a * b) ?_ ?_
  · blk_ext [idx t]
  · blk_simp [idx t]
    simp only [IntOp.addi, BitVec.add_zero]
    rw [cmpi_eq_ofNat (by omega) (by omega)]
    have h : (r.val / 4 % 4 = w.val % 4) = (r.val % 16 / 4 = w.val % 4) := by
      have e : r.val / 4 % 4 = r.val % 16 / 4 := by omega
      rw [e]
    rw [decide_eq_decide.mpr (iff_of_eq h)]
    by_cases h' : r.val % 16 / 4 = w.val % 4
    · rw [if_pos h', decide_eq_true h']
      show ((((BitVec.ofBool true).toNat : ℕ) : ℝ) : EReal) = 1
      simp
    · rw [if_neg h', decide_eq_false h']
      show ((((BitVec.ofBool false).toNat : ℕ) : ℝ) : EReal) = 0
      simp

end Cert.KernelIdeal.Gen

end
-- ==== Proof.Value.Quantise.lean ====
/- The quantiser: a row's scale and codes as functions of the row, what the kernel and the reference compute being that,
   and the codes as integers: a code survives the passage through a word of eight or of thirty-two bits. -/
module

public import proofs.«01_k».proof.Proof.KernelIdeal.Attend
public import proofs.«01_k».proof.Proof.Gen.ReferenceIdeal.Read
public import Idealize.ShloMosaic.Lib.Pointwise

@[expose] public section

set_option maxRecDepth 16384

noncomputable section

namespace Cert.Value

open Idealize.ShloMosaic

/-! ## The codes of a row -/

/-- A row's greatest magnitude, -/
def rowMag (f : Fin 128 → EReal) : EReal := Finset.univ.fold max (Ideal.ofBits .f32 0xFF800000#32) fun d => max (f d) (-(f d))

/-- its scale, -/
def rowScale (f : Fin 128 → EReal) : EReal := if 0 < rowMag f then Ideal.div (rowMag f) (Ideal.ofBits .f32 0x42FE0000#32) else 1

/-- and its codes, as extended reals. -/
def rowCode (f : Fin 128 → EReal) (d : Fin 128) : EReal :=
  min (Ideal.ofBits .f32 0x42FE0000#32) (max (Ideal.ofBits .f32 0xC2FE0000#32) (Ideal.liftRound Ideal.roundHalfEven (Ideal.div (f d) (rowScale f))))

theorem bits_127 : Ideal.ofBits .f32 0x42FE0000#32 = (((127 : ℤ) : ℝ) : EReal) := by
  simp [Ideal.ofBits, Ideal.ieee]
  rw [← EReal.coe_mul]; norm_num

theorem bits_neg_127 : Ideal.ofBits .f32 0xC2FE0000#32 = (((-127 : ℤ) : ℝ) : EReal) := by
  simp [Ideal.ofBits, Ideal.ieee]
  rw [← EReal.coe_mul]; norm_num

/-- A rounded extended real clipped to [-127, 127] is an integer there. -/
theorem clip_int (x : EReal) : ∃ z : ℤ, -127 ≤ z ∧ z ≤ 127 ∧
    min (Ideal.ofBits .f32 0x42FE0000#32) (max (Ideal.ofBits .f32 0xC2FE0000#32) (Ideal.liftRound Ideal.roundHalfEven x)) = ((z : ℝ) : EReal) := by
  rw [bits_127, bits_neg_127]
  induction x with
  | bot => exact ⟨-127, by omega, by omega, by
      show min (((127 : ℤ) : ℝ) : EReal) (max (((-127 : ℤ) : ℝ) : EReal) ⊥) = _
      rw [max_eq_left bot_le, min_eq_right]; exact EReal.coe_le_coe_iff.mpr (by norm_num)⟩
  | top => exact ⟨127, by omega, by omega, by
      show min (((127 : ℤ) : ℝ) : EReal) (max (((-127 : ℤ) : ℝ) : EReal) ⊤) = _
      rw [max_eq_right le_top, min_eq_left le_top]⟩
  | coe r => exact ⟨min 127 (max (-127) (Ideal.roundHalfEven r)), by omega, by omega, by
      show min (((127 : ℤ) : ℝ) : EReal) (max (((-127 : ℤ) : ℝ) : EReal) (((Ideal.roundHalfEven r : ℤ) : ℝ) : EReal)) = _
      rw [Int.cast_min, Int.cast_max]
      rw [EReal.coe_strictMono.monotone.map_min, EReal.coe_strictMono.monotone.map_max]⟩

/-- A row's codes are integers of magnitude at most 127. -/
theorem rowCode_int (f : Fin 128 → EReal) (d : Fin 128) : ∃ z : ℤ, -127 ≤ z ∧ z ≤ 127 ∧ rowCode f d = ((z : ℝ) : EReal) := clip_int _

/-- An integer in a word's range converts to that word. -/
theorem fptosi_int (w : ℕ) (z : ℤ) (lo : (-(2 ^ (w - 1) : ℕ) : ℤ) ≤ z) (hi : z ≤ ((2 ^ (w - 1) : ℕ) : ℤ) - 1) :
    Ideal.fptosi w ((z : ℝ) : EReal) = BitVec.ofInt w z := by
  have e : Ideal.toIntClamped (-(2 ^ (w - 1) : ℕ)) ((2 ^ (w - 1) : ℕ) - 1) ((z : ℝ) : EReal) = z := by
    show max _ (min _ (if (0 : ℝ) ≤ (z : ℝ) then ⌊(z : ℝ)⌋ else ⌈(z : ℝ)⌉)) = z
    simp only [Int.floor_intCast, Int.ceil_intCast, ite_self]
    omega
  unfold Ideal.fptosi
  rw [e]

/-- A code's eight-bit word is the low byte of its thirty-two-bit one, -/
theorem narrow_code (f : Fin 128 → EReal) (d : Fin 128) : BitVec.setWidth 8 (Ideal.fptosi 32 (rowCode f d)) = Ideal.fptosi 8 (rowCode f d) := by
  obtain ⟨z, h1, h2, e⟩ := rowCode_int f d
  rw [e, fptosi_int 32 z (by norm_num; omega) (by norm_num; omega), fptosi_int 8 z (by norm_num; omega) (by norm_num; omega)]
  apply BitVec.eq_of_toNat_eq
  simp only [BitVec.toNat_setWidth, BitVec.toNat_ofInt]
  omega

/-- and the word, read as a signed integer, is the code. -/
theorem widen_code (f : Fin 128 → EReal) (d : Fin 128) : (((Ideal.fptosi 8 (rowCode f d)).toInt : ℝ) : EReal) = rowCode f d := by
  obtain ⟨z, h1, h2, e⟩ := rowCode_int f d
  rw [e, fptosi_int 8 z (by norm_num; omega) (by norm_num; omega), BitVec.toInt_ofInt]
  have : z.bmod (2 ^ 8) = z := by
    rw [Int.bmod_def]; norm_num; omega
  rw [this]

/-! ## The kernel's -/

section Kernel
open Cert.KernelIdeal Cert.KernelIdeal.Gen

/-- The scales of new keys, -/
theorem pay3_apply (x : Vec Ideal S1x32x128 .bf16) (n : Fin 32) : k0_pay3 x (ix2 n (0 : Fin 1)) = rowScale fun d => x (ix3 (0 : Fin 1) n d) := by
  pointwise [k0_pay3, k0_pay2]
  rfl

/-- their codes, as extended reals, -/
theorem pay4_apply (x : Vec Ideal S1x32x128 .bf16) (n : Fin 32) (d : Fin 128) : k0_pay4 x (ix2 n d) = rowCode (fun d => x (ix3 (0 : Fin 1) n d)) d := by
  pointwise [k0_pay4, k0_pay2]
  rw [pay3_apply]
  rfl

/-- and as words; -/
theorem pay9_apply (x : Vec Ideal S1x32x128 .bf16) (n : Fin 32) (d : Fin 128) :
    k0_pay9 (k0_pay8 x) (ix3 (0 : Fin 1) n d) = Ideal.fptosi 8 (rowCode (fun d => x (ix3 (0 : Fin 1) n d)) d) := by
  pointwise [k0_pay8, k0_pay9]
  rw [pay4_apply]
  rfl

theorem pay11_apply (x : Vec Ideal S1x32x128 .bf16) (n : Fin 32) :
    k0_pay11 (k0_pay3 x) (ix3 (0 : Fin 1) n (0 : Fin 1)) = rowScale fun d => x (ix3 (0 : Fin 1) n d) := by
  pointwise [k0_pay11]
  exact pay3_apply x n

/-- the same of new values. -/
theorem pay10_apply (x : Vec Ideal S1x32x128 .bf16) (n : Fin 32) (d : Fin 128) :
    k0_pay10 (k0_pay7 x) (ix3 (0 : Fin 1) n d) = Ideal.fptosi 8 (rowCode (fun d => x (ix3 (0 : Fin 1) n d)) d) :=
  pay9_apply x n d

theorem pay12_apply (x : Vec Ideal S1x32x128 .bf16) (n : Fin 32) :
    k0_pay12 (k0_pay6 x) (ix3 (0 : Fin 1) n (0 : Fin 1)) = rowScale fun d => x (ix3 (0 : Fin 1) n d) :=
  pay11_apply x n

/-- The dequantised new rows. -/
theorem fresh_row (x : Vec Ideal S1x32x128 .bf16) (n : Fin 32) (d : Fin 128) :
    fresh x n d = rowCode (fun d => x (ix3 (0 : Fin 1) n d)) d * rowScale fun d => x (ix3 (0 : Fin 1) n d) := by
  unfold fresh
  rw [pay4_apply, pay3_apply]

end Kernel

/-! ## The reference's -/

section Reference
open Cert.ReferenceIdeal Cert.ReferenceIdeal.Read

/-- The greatest magnitude of a token's head, -/
theorem v2_apply (x : Vec Ideal S16x4x8x128 .bf16) (b : Fin 16) (s : Fin 4) (h : Fin 8) :
    val_main_v2 (F := Ideal) x (ix3 b s h) = rowMag fun d => x (ix4 b s h d) := by
  pointwise [val_main_v2, val_main_v1, val_main_v0]
  rfl

/-- its scale, -/
theorem v7_apply (x : Vec Ideal S16x4x8x128 .bf16) (b : Fin 16) (s : Fin 4) (h : Fin 8) :
    val_main_v7 (F := Ideal) x (ix3 b s h) = rowScale fun d => x (ix4 b s h d) := by
  simp only [val_main_v7_apply, val_main_v6_apply, val_main_v4_apply, val_main_v3_apply, val_main_v5_apply, val_main_call0_v1_apply,
    val_main_call0_v0_apply, val_main_cst_0_apply, val_main_cst_1_apply, val_main_cst_2_apply, v2_apply]
  pointwise
  rfl

/-- its codes. -/
theorem v12_apply (x : Vec Ideal S16x4x8x128 .bf16) (b : Fin 16) (s : Fin 4) (h : Fin 8) (d : Fin 128) :
    val_main_v12 (F := Ideal) x (ix4 b s h d) = rowCode (fun d => x (ix4 b s h d)) d := by
  have e : val_main_v7 (F := Ideal) x (idx_main_v8 (idx_main_v9 (ix4 b s h d))) = rowScale fun d => x (ix4 b s h d) := by
    refine Eq.trans (congrArg (val_main_v7 (F := Ideal) x) ?_) (v7_apply x b s h)
    funext a; fin_cases a <;> rfl
  simp only [val_main_v12_apply, val_main_v11_apply, val_main_v10_apply, val_main_v9_apply, val_main_v8_apply,
    val_main_call2_v2_apply, val_main_call2_v1_apply, val_main_call2_v0_apply, val_main_call2_v3_apply, val_main_call2_v4_apply, val_main_cst_3_apply,
    val_main_cst_4_apply, val_main_v0_apply, e]
  rfl

/-- The codes as words, -/
theorem v14_apply (x : Vec Ideal S16x4x8x128 .bf16) (b : Fin 16) (s : Fin 4) (h : Fin 8) (d : Fin 128) :
    val_main_v14 (F := Ideal) x (ix4 b s h d) = Ideal.fptosi 8 (rowCode (fun d => x (ix4 b s h d)) d) := by
  rw [← narrow_code, ← v12_apply]
  rfl

/-- and the same of new values. -/
theorem v22_apply (x : Vec Ideal S16x4x8x128 .bf16) (b : Fin 16) (s : Fin 4) (h : Fin 8) :
    val_main_v22 (F := Ideal) x (ix3 b s h) = rowScale fun d => x (ix4 b s h d) := v7_apply x b s h

theorem v29_apply (x : Vec Ideal S16x4x8x128 .bf16) (b : Fin 16) (s : Fin 4) (h : Fin 8) (d : Fin 128) :
    val_main_v29 (F := Ideal) x (ix4 b s h d) = Ideal.fptosi 8 (rowCode (fun d => x (ix4 b s h d)) d) := v14_apply x b s h d

/-- The dequantised new keys -/
theorem v43_apply (x : Vec Ideal S16x4x8x128 .bf16) (b : Fin 16) (s : Fin 4) (h : Fin 8) (d : Fin 128) :
    val_main_v43 (F := Ideal) x (ix4 b s h d) = rowCode (fun d => x (ix4 b s h d)) d * rowScale fun d => x (ix4 b s h d) := by
  have e : val_main_v7 (F := Ideal) x (idx_main_v41 (idx_main_v42 (ix4 b s h d))) = rowScale fun d => x (ix4 b s h d) := by
    refine Eq.trans (congrArg (val_main_v7 (F := Ideal) x) ?_) (v7_apply x b s h)
    funext a; fin_cases a <;> rfl
  simp only [val_main_v43_apply, val_main_v42_apply, val_main_v41_apply, val_main_v40_apply, val_main_v39_apply, val_main_v38_apply, val_main_v37_apply, e, v14_apply]
  refine congrArg (fun a : EReal => a * rowScale fun d => x (ix4 b s h d)) ?_
  refine Eq.trans ?_ (widen_code (fun d => x (ix4 b s h d)) d)
  rw [← BitVec.toInt_signExtend_of_le (v := 32) (by omega)]
  rfl

/-- and values. -/
theorem v58_apply (x : Vec Ideal S16x4x8x128 .bf16) (b : Fin 16) (s : Fin 4) (h : Fin 8) (d : Fin 128) :
    val_main_v58 (F := Ideal) x (ix4 b s h d) = rowCode (fun d => x (ix4 b s h d)) d * rowScale fun d => x (ix4 b s h d) := v43_apply x b s h d

end Reference

end Cert.Value

end
-- ==== Proof.Value.Codes.lean ====
/- The quantised new keys and values: the arrays of codes and scales the kernel leaves are the reference's. -/
module

public import proofs.«01_k».proof.Proof.KernelIdeal.Inputs
public import proofs.«01_k».proof.Proof.Value.Quantise

@[expose] public section

set_option maxRecDepth 16384

noncomputable section

namespace Cert.Value

open Idealize.ShloMosaic Idealize.ShloMosaic.TcCoe Idealize.SL.Sem
open Idealize.ShloMosaic.Pipeline (Dat)

/-! ## The reference's arrays at an index -/

section Reference
open Cert.ReferenceIdeal Cert.ReferenceIdeal.Read

/-- Row `n` of a batch entry's codes is token `n / 8` and head `n % 8`, -/
theorem v85_apply (x : Vec Ideal S16x4x8x128 .bf16) (b : Fin 16) (n : Fin 32) (d : Fin 128) :
    val_main_v85 (F := Ideal) x (ix3 b n d)
      = Ideal.fptosi 8 (rowCode (fun d => x (ix4 b (⟨n.val / 8, by omega⟩ : Fin 4) (⟨n.val % 8, by omega⟩ : Fin 8) d)) d) := by
  refine Eq.trans ?_ (v14_apply x b ⟨n.val / 8, by omega⟩ ⟨n.val % 8, by omega⟩ d)
  unfold val_main_v85
  generalize val_main_v14 (F := Ideal) x = y
  pointwise

/-- and so are its scales'. -/
theorem v86_apply (x : Vec Ideal S16x4x8x128 .bf16) (b : Fin 16) (n : Fin 32) :
    val_main_v86 (F := Ideal) x (ix3 b n (0 : Fin 1))
      = rowScale fun d => x (ix4 b (⟨n.val / 8, by omega⟩ : Fin 4) (⟨n.val % 8, by omega⟩ : Fin 8) d) := by
  refine Eq.trans ?_ (v7_apply x b ⟨n.val / 8, by omega⟩ ⟨n.val % 8, by omega⟩)
  unfold val_main_v86
  generalize val_main_v7 (F := Ideal) x = y
  pointwise

theorem v87_apply (x : Vec Ideal S16x4x8x128 .bf16) (b : Fin 16) (n : Fin 32) (d : Fin 128) :
    val_main_v87 (F := Ideal) x (ix3 b n d)
      = Ideal.fptosi 8 (rowCode (fun d => x (ix4 b (⟨n.val / 8, by omega⟩ : Fin 4) (⟨n.val % 8, by omega⟩ : Fin 8) d)) d) := v85_apply x b n d

theorem v88_apply (x : Vec Ideal S16x4x8x128 .bf16) (b : Fin 16) (n : Fin 32) :
    val_main_v88 (F := Ideal) x (ix3 b n (0 : Fin 1))
      = rowScale fun d => x (ix4 b (⟨n.val / 8, by omega⟩ : Fin 4) (⟨n.val % 8, by omega⟩ : Fin 8) d) := v86_apply x b n

end Reference

/-! ## The kernel's -/

open Cert.KernelIdeal Cert.KernelIdeal.Gen

/-- What a grid point leaves of codes, -/
theorem outKCode_apply (x : Vec Ideal S1x32x128 .bf16) (n : Fin 32) (d : Fin 128) :
    outKCode x (ix3 (0 : Fin 1) n d) = Ideal.fptosi 8 (rowCode (fun d => x (ix3 (0 : Fin 1) n d)) d) := by
  refine Eq.trans ?_ (pay9_apply x n d)
  unfold outKCode kCodePieces
  frame_out

theorem outVCode_apply (x : Vec Ideal S1x32x128 .bf16) (n : Fin 32) (d : Fin 128) :
    outVCode x (ix3 (0 : Fin 1) n d) = Ideal.fptosi 8 (rowCode (fun d => x (ix3 (0 : Fin 1) n d)) d) := by
  refine Eq.trans ?_ (pay10_apply x n d)
  unfold outVCode vCodePieces
  frame_out

/-- and of scales. -/
theorem outKScale_apply (x : Vec Ideal S1x32x128 .bf16) (n : Fin 32) :
    outKScale x (ix3 (0 : Fin 1) n (0 : Fin 1)) = rowScale fun d => x (ix3 (0 : Fin 1) n d) := by
  refine Eq.trans ?_ (pay11_apply x n)
  unfold outKScale kScalePieces
  frame_out

theorem outVScale_apply (x : Vec Ideal S1x32x128 .bf16) (n : Fin 32) :
    outVScale x (ix3 (0 : Fin 1) n (0 : Fin 1)) = rowScale fun d => x (ix3 (0 : Fin 1) n d) := by
  refine Eq.trans ?_ (pay12_apply x n)
  unfold outVScale vScalePieces
  frame_out

variable (m : (ℓ : Loc nD τ sig) → Buf (Elt Ideal) ℓ)

/-- The new keys' codes, -/
theorem final_kCode (c : Dev nD) : (dats m 0 c).arrAt 9 (cfgs 0).N = Cert.ReferenceIdeal.Read.val_main_v85 (F := Ideal) (argK m c) := by
  refine (dats m 0 c).arrAt_eq_of_covers 9 _ (by decide +kernel) fun t _ y => ?_
  have ht : t.val < 16 := (idx t).1
  blk_simp
  rw [after0_9]
  idx_vars y
  obtain rfl : y0 = 0 := Subsingleton.elim _ _
  have e : ((cfg0.win 9).blk t).view.emb (ix3 (0 : Fin 1) y1 y2) = ix3 (⟨t.val, ht⟩ : Fin 16) y1 y2 := by
    blk_ext [idx t]
  refine Eq.trans ?_ (congrArg (Cert.ReferenceIdeal.Read.val_main_v85 (F := Ideal) (argK m c)) e).symm
  refine (outKCode_apply (show Vec Ideal S1x32x128 .bf16 from iblk m c 2 t) y1 y2).trans (Eq.trans ?_ (v85_apply (argK m c) ⟨t.val, ht⟩ y1 y2).symm)
  exact congrArg (fun f : Fin 128 → EReal => Ideal.fptosi 8 (rowCode f y2)) (funext fun d => blk2 m c t ⟨t.val, ht⟩ rfl y1 d)

/-- their scales, -/
theorem final_kScale (c : Dev nD) : (dats m 0 c).arrAt 10 (cfgs 0).N = Cert.ReferenceIdeal.Read.val_main_v86 (F := Ideal) (argK m c) := by
  refine (dats m 0 c).arrAt_eq_of_covers 10 _ (by decide +kernel) fun t _ y => ?_
  have ht : t.val < 16 := (idx t).1
  blk_simp
  rw [after0_10]
  idx_vars y
  obtain rfl : y0 = 0 := Subsingleton.elim _ _
  obtain rfl : y2 = 0 := Subsingleton.elim _ _
  have e : ((cfg0.win 10).blk t).view.emb (ix3 (0 : Fin 1) y1 (0 : Fin 1)) = ix3 (⟨t.val, ht⟩ : Fin 16) y1 (0 : Fin 1) := by
    blk_ext [idx t]
  refine Eq.trans ?_ (congrArg (Cert.ReferenceIdeal.Read.val_main_v86 (F := Ideal) (argK m c)) e).symm
  refine (outKScale_apply (show Vec Ideal S1x32x128 .bf16 from iblk m c 2 t) y1).trans (Eq.trans ?_ (v86_apply (argK m c) ⟨t.val, ht⟩ y1).symm)
  exact congrArg rowScale (funext fun d => blk2 m c t ⟨t.val, ht⟩ rfl y1 d)

/-- the new values' codes, -/
theorem final_vCode (c : Dev nD) : (dats m 0 c).arrAt 11 (cfgs 0).N = Cert.ReferenceIdeal.Read.val_main_v87 (F := Ideal) (argV m c) := by
  refine (dats m 0 c).arrAt_eq_of_covers 11 _ (by decide +kernel) fun t _ y => ?_
  have ht : t.val < 16 := (idx t).1
  blk_simp
  rw [after0_11]
  idx_vars y
  obtain rfl : y0 = 0 := Subsingleton.elim _ _
  have e : ((cfg0.win 11).blk t).view.emb (ix3 (0 : Fin 1) y1 y2) = ix3 (⟨t.val, ht⟩ : Fin 16) y1 y2 := by
    blk_ext [idx t]
  refine Eq.trans ?_ (congrArg (Cert.ReferenceIdeal.Read.val_main_v87 (F := Ideal) (argV m c)) e).symm
  refine (outVCode_apply (show Vec Ideal S1x32x128 .bf16 from iblk m c 3 t) y1 y2).trans (Eq.trans ?_ (v87_apply (argV m c) ⟨t.val, ht⟩ y1 y2).symm)
  exact congrArg (fun f : Fin 128 → EReal => Ideal.fptosi 8 (rowCode f y2)) (funext fun d => blk3 m c t ⟨t.val, ht⟩ rfl y1 d)

/-- and their scales. -/
theorem final_vScale (c : Dev nD) : (dats m 0 c).arrAt 12 (cfgs 0).N = Cert.ReferenceIdeal.Read.val_main_v88 (F := Ideal) (argV m c) := by
  refine (dats m 0 c).arrAt_eq_of_covers 12 _ (by decide +kernel) fun t _ y => ?_
  have ht : t.val < 16 := (idx t).1
  blk_simp
  rw [after0_12]
  idx_vars y
  obtain rfl : y0 = 0 := Subsingleton.elim _ _
  obtain rfl : y2 = 0 := Subsingleton.elim _ _
  have e : ((cfg0.win 12).blk t).view.emb (ix3 (0 : Fin 1) y1 (0 : Fin 1)) = ix3 (⟨t.val, ht⟩ : Fin 16) y1 (0 : Fin 1) := by
    blk_ext [idx t]
  refine Eq.trans ?_ (congrArg (Cert.ReferenceIdeal.Read.val_main_v88 (F := Ideal) (argV m c)) e).symm
  refine (outVScale_apply (show Vec Ideal S1x32x128 .bf16 from iblk m c 3 t) y1).trans (Eq.trans ?_ (v88_apply (argV m c) ⟨t.val, ht⟩ y1).symm)
  exact congrArg rowScale (funext fun d => blk3 m c t ⟨t.val, ht⟩ rfl y1 d)

end Cert.Value

end
-- ==== Proof.Value.Softmax.lean ====
/- Attention over one sequence of positions against attention over cached positions and new rows apart: the new rows hold
   every head's, and those of other heads, like those of later tokens, are masked to the least extended real, whose
   exponential is zero. -/
module

public import proofs.«01_k».proof.Proof.KernelIdeal.Attend

@[expose] public section

set_option maxRecDepth 16384

noncomputable section

namespace Cert.Value

open Idealize.ShloMosaic
open Cert.KernelIdeal.Gen (attend)

/-- One element of attention over 4100 positions of scores `σ` and values `ν`. -/
def attendAll (σ ν : Fin 4100 → EReal) : EReal :=
  Ideal.div (∑ p, Ideal.exp (σ p - Finset.univ.sup σ) * ν p) (∑ p, Ideal.exp (σ p - Finset.univ.sup σ))

/-- A position of the cache, -/
def old (t : Fin 4096) : Fin 4100 := ⟨t.val, by omega⟩

/-- and that of a new token. -/
def new (j : Fin 4) : Fin 4100 := ⟨4096 + j.val, by omega⟩

/-- The row of a new token's head. -/
def newRow (j : Fin 4) (e : Fin 8) : Fin 32 := ⟨8 * j.val + e.val, by omega⟩

/-- A sum over the positions is that over the cache and that over the new tokens. -/
theorem sum_positions (f : Fin 4100 → EReal) : ∑ p, f p = (∑ j : Fin 4, f (new j)) + ∑ t : Fin 4096, f (old t) := by
  rw [add_comm]
  exact Fin.sum_univ_add (a := 4096) (b := 4) f

/-- A sum over the new rows is over tokens and heads. -/
theorem sum_rows (f : Fin 32 → EReal) : ∑ c, f c = ∑ j : Fin 4, ∑ e : Fin 8, f (newRow j e) := by
  rw [← Equiv.sum_comp (finProdFinEquiv : Fin 4 × Fin 8 ≃ Fin 32), Fintype.sum_prod_type]
  refine Finset.sum_congr rfl fun j _ => Finset.sum_congr rfl fun e _ => congrArg f (Fin.ext ?_)
  show e.val + 8 * j.val = 8 * j.val + e.val
  omega

/-- When all but one head's terms vanish it is over the tokens alone. -/
theorem sum_head (f : Fin 32 → EReal) (h : Fin 8) (hf : ∀ j e, e ≠ h → f (newRow j e) = 0) : ∑ c, f c = ∑ j : Fin 4, f (newRow j h) := by
  rw [sum_rows]
  exact Finset.sum_congr rfl fun j _ => Finset.sum_eq_single h (fun e _ he => hf j e he) (fun hn => absurd (Finset.mem_univ h) hn)

theorem exp_masked (a : EReal) : Ideal.exp (⊥ - a) = 0 := by
  rw [EReal.bot_sub]; rfl

variable (sn : Fin 32 → EReal) (sc : Fin 4096 → EReal) (vn : Fin 32 → EReal) (vc : Fin 4096 → EReal) (σ ν : Fin 4100 → EReal) (h : Fin 8)

/-- The two maxima are one. -/
theorem sup_split (hc : ∀ t, sc t = σ (old t)) (hn : ∀ j e, sn (newRow j e) = if e = h then σ (new j) else ⊥) :
    max (Finset.univ.sup sn) (Finset.univ.sup sc) = Finset.univ.sup σ := by
  apply le_antisymm
  · refine max_le (Finset.sup_le fun c _ => ?_) (Finset.sup_le fun t _ => ?_)
    · have e : c = newRow ⟨c.val / 8, by omega⟩ ⟨c.val % 8, by omega⟩ := Fin.ext (by show c.val = 8 * (c.val / 8) + c.val % 8; omega)
      rw [e, hn]
      split_ifs
      · exact Finset.le_sup (Finset.mem_univ _)
      · exact bot_le
    · rw [hc]; exact Finset.le_sup (Finset.mem_univ _)
  · refine Finset.sup_le fun p _ => ?_
    by_cases hp : p.val < 4096
    · refine le_trans (le_of_eq ?_) (le_trans (Finset.le_sup (f := sc) (Finset.mem_univ ⟨p.val, hp⟩)) (le_max_right _ _))
      rw [hc]; rfl
    · refine le_trans (le_of_eq ?_) (le_trans (Finset.le_sup (f := sn) (Finset.mem_univ (newRow ⟨p.val - 4096, by omega⟩ h))) (le_max_left _ _))
      rw [hn, if_pos rfl]
      exact congrArg σ (Fin.ext (by show p.val = 4096 + (p.val - 4096); omega))

/-- The kernel's form of attention is the reference's. -/
theorem attend_eq (hc : ∀ t, sc t = σ (old t)) (hn : ∀ j e, sn (newRow j e) = if e = h then σ (new j) else ⊥)
    (hvc : ∀ t, vc t = ν (old t)) (hvn : ∀ j, vn (newRow j h) = ν (new j)) :
    attend sn sc vn vc = attendAll σ ν := by
  unfold attend attendAll
  rw [sup_split sn sc σ h hc hn, sum_positions, sum_positions]
  refine congrArg₂ Ideal.div (congrArg₂ (fun a b : EReal => a + b) ?_ ?_) (congrArg₂ (fun a b : EReal => a + b) ?_ ?_)
  · rw [sum_head _ h fun j e he => by rw [hn, if_neg he, exp_masked, zero_mul]]
    exact Finset.sum_congr rfl fun j _ => by rw [hn, if_pos rfl, hvn]
  · exact Finset.sum_congr rfl fun t _ => by rw [hc, hvc]
  · rw [sum_head _ h fun j e he => by rw [hn, if_neg he, exp_masked]]
    exact Finset.sum_congr rfl fun j _ => by rw [hn, if_pos rfl]
  · exact Finset.sum_congr rfl fun t _ => by rw [hc]

end Cert.Value

end
-- ==== Proof.Value.Reference.lean ====
/- The reference's attention outputs at an index: attention over the 4096 cached positions and the 4 new ones, the
   positions after the query's own masked. -/
module

public import proofs.«01_k».proof.Proof.Value.Quantise
public import proofs.«01_k».proof.Proof.Value.Softmax

@[expose] public section

set_option maxRecDepth 16384

noncomputable section

namespace Cert.Value

open Idealize.ShloMosaic
open Idealize.ShloMosaic.WordCmp
open Cert.ReferenceIdeal Cert.ReferenceIdeal.Read

/-- A dequantised element of a cache, -/
def oldElt (codes : Vec Ideal S16x4096x8x128 .i8) (scales : Vec Ideal S16x4096x8 .f32) (b : Fin 16) (t : Fin 4096) (h : Fin 8) (d : Fin 128) : EReal :=
  (((codes (ix4 b t h d)).toInt : ℝ) : EReal) * scales (ix3 b t h)

/-- a dequantised new element, -/
def newElt (x : Vec Ideal S16x4x8x128 .bf16) (b : Fin 16) (j : Fin 4) (h : Fin 8) (d : Fin 128) : EReal :=
  rowCode (fun d => x (ix4 b j h d)) d * rowScale fun d => x (ix4 b j h d)

/-- and an element of the keys or values over all positions. -/
def elt (x : Vec Ideal S16x4x8x128 .bf16) (codes : Vec Ideal S16x4096x8x128 .i8) (scales : Vec Ideal S16x4096x8 .f32) (b : Fin 16) (p : Fin 4100) (h : Fin 8) (d : Fin 128) : EReal :=
  if hp : p.val < 4096 then oldElt codes scales b ⟨p.val, hp⟩ h d else newElt x b ⟨p.val - 4096, by omega⟩ h d

theorem v36_apply (x3 : Vec Ideal S16x4096x8x128 .i8) (x4 : Vec Ideal S16x4096x8 .f32) (b : Fin 16) (t : Fin 4096) (h : Fin 8) (d : Fin 128) :
    val_main_v36 (F := Ideal) x3 x4 (ix4 b t h d) = oldElt x3 x4 b t h d := by
  simp only [val_main_v36_apply, val_main_v35_apply, val_main_v34_apply, val_main_v33_apply, val_main_v32_apply, val_main_v31_apply, val_main_v30_apply]
  unfold oldElt
  rw [← BitVec.toInt_signExtend_of_le (v := 32) (by omega)]
  refine congrArg₂ (fun a b : EReal => a * b) rfl (congrArg x4 ?_)
  funext a; fin_cases a <;> rfl

/-- The keys over all positions, -/
theorem v44_apply (x1 : Vec Ideal S16x4x8x128 .bf16) (x3 : Vec Ideal S16x4096x8x128 .i8) (x4 : Vec Ideal S16x4096x8 .f32) (b : Fin 16) (p : Fin 4100) (h : Fin 8) (d : Fin 128) :
    val_main_v44 (F := Ideal) x1 x3 x4 (ix4 b p h d) = elt x1 x3 x4 b p h d := by
  unfold val_main_v44 elt
  simp only [← v36_apply, newElt, ← v43_apply]
  generalize val_main_v36 (F := Ideal) x3 x4 = y
  generalize val_main_v43 (F := Ideal) x1 = z
  pointwise

/-- the values, -/
theorem v59_apply (x2 : Vec Ideal S16x4x8x128 .bf16) (x5 : Vec Ideal S16x4096x8x128 .i8) (x6 : Vec Ideal S16x4096x8 .f32) (b : Fin 16) (p : Fin 4100) (h : Fin 8) (d : Fin 128) :
    val_main_v59 (F := Ideal) x2 x5 x6 (ix4 b p h d) = elt x2 x5 x6 b p h d := v44_apply x2 x5 x6 b p h d

/-- the scores of token `s`'s query head `4 h + g`, -/
def scoreOf (x0 : Vec Ideal S16x4x4096 .bf16) (x1 : Vec Ideal S16x4x8x128 .bf16) (x3 : Vec Ideal S16x4096x8x128 .i8) (x4 : Vec Ideal S16x4096x8 .f32)
    (b : Fin 16) (h : Fin 8) (g s : Fin 4) (p : Fin 4100) : EReal :=
  if p.val ≤ 4096 + s.val then
    (∑ d : Fin 128, elt x1 x3 x4 b p h d * x0 (ix3 b s (⟨(4 * h.val + g.val) * 128 + d.val, by omega⟩ : Fin 4096))) * Ideal.ofBits .f32 0x3DB504F3#32
  else ⊥

theorem v60_apply (x0 : Vec Ideal S16x4x4096 .bf16) (b : Fin 16) (s : Fin 4) (h : Fin 8) (g : Fin 4) (d : Fin 128) :
    val_main_v60 (F := Ideal) x0 (ix5 b s h g d) = x0 (ix3 b s (⟨(4 * h.val + g.val) * 128 + d.val, by omega⟩ : Fin 4096)) := by
  pointwise [val_main_v60]
  exact congrArg (fun i : Fin 4096 => x0 (ix3 b s i)) (Fin.ext (by show h.val * 512 + g.val * 128 + d.val = (4 * h.val + g.val) * 128 + d.val; omega))

theorem v64_apply (x0 : Vec Ideal S16x4x4096 .bf16) (x1 : Vec Ideal S16x4x8x128 .bf16) (x3 : Vec Ideal S16x4096x8x128 .i8) (x4 : Vec Ideal S16x4096x8 .f32)
    (b : Fin 16) (h : Fin 8) (g s : Fin 4) (p : Fin 4100) :
    val_main_v64 (F := Ideal) x0 x1 x3 x4 (ix5 b h g s p)
      = (∑ d : Fin 128, elt x1 x3 x4 b p h d * x0 (ix3 b s (⟨(4 * h.val + g.val) * 128 + d.val, by omega⟩ : Fin 4096))) * Ideal.ofBits .f32 0x3DB504F3#32 := by
  rw [val_main_v64_apply, val_main_v63_apply, val_main_cst_11_apply, val_main_v62_apply, val_main_v61_apply]
  refine congrArg (fun a : EReal => a * Ideal.ofBits .f32 0x3DB504F3#32) (Finset.sum_congr rfl fun d _ => ?_)
  refine congrArg₂ (fun a b : EReal => a * b) ((congrArg (val_main_v44 (F := Ideal) x1 x3 x4) ?_).trans (v44_apply x1 x3 x4 b p h d)) ?_
  · funext a; fin_cases a <;> rfl
  · refine (congrArg (val_main_v60 (F := Ideal) x0) ?_).trans (v60_apply x0 b s h g d)
    funext a; fin_cases a <;> rfl

theorem v69_apply (s : Fin 4) (p : Fin 4100) : val_main_v69 (F := Ideal) (ix2 s p) = BitVec.ofBool (decide (p.val ≤ 4096 + s.val)) := by
  rw [val_main_v69_apply, val_main_v68_apply, val_main_v67_apply, val_main_v65_apply, val_main_v66_apply, val_main_c_apply]
  show IntOp.cmpi .sle (BitVec.ofNat 32 p.val) (BitVec.ofNat 32 4096 + BitVec.ofNat 32 s.val) = _
  rw [← BitVec.ofNat_add, cmpi_sle_ofNat (by omega) (by omega)]

theorem v70_apply (x0 : Vec Ideal S16x4x4096 .bf16) (x1 : Vec Ideal S16x4x8x128 .bf16) (x3 : Vec Ideal S16x4096x8x128 .i8) (x4 : Vec Ideal S16x4096x8 .f32)
    (b : Fin 16) (h : Fin 8) (g s : Fin 4) (p : Fin 4100) :
    val_main_v70 (F := Ideal) x0 x1 x3 x4 (ix5 b h g s p) = scoreOf x0 x1 x3 x4 b h g s p := by
  have e : val_main_call6_v1 (F := Ideal) (ix5 b h g s p) = BitVec.ofBool (decide (p.val ≤ 4096 + s.val)) := by
    rw [val_main_call6_v1_apply, ← v69_apply]
    refine congrArg (val_main_v69 (F := Ideal)) ?_
    funext a; fin_cases a <;> rfl
  rw [val_main_v70_apply, e, v64_apply, select_ofBool]
  unfold scoreOf
  simp only [decide_eq_true_eq]
  exact congrArg (fun a : EReal => if p.val ≤ 4096 + s.val then _ else a) Cert.KernelIdeal.Gen.neg_inf

/-- their maximum, -/
theorem v71_apply (x0 : Vec Ideal S16x4x4096 .bf16) (x1 : Vec Ideal S16x4x8x128 .bf16) (x3 : Vec Ideal S16x4096x8x128 .i8) (x4 : Vec Ideal S16x4096x8 .f32)
    (b : Fin 16) (h : Fin 8) (g s : Fin 4) :
    val_main_v71 (F := Ideal) x0 x1 x3 x4 (ix4 b h g s) = Finset.univ.sup (scoreOf x0 x1 x3 x4 b h g s) := by
  have e : (fun p => val_main_v70 (F := Ideal) x0 x1 x3 x4 (ix5 b h g s p)) = scoreOf x0 x1 x3 x4 b h g s := funext fun p => v70_apply x0 x1 x3 x4 b h g s p
  rw [← e]
  unfold val_main_v71
  generalize val_main_v70 (F := Ideal) x0 x1 x3 x4 = y
  pointwise
  exact Cert.KernelIdeal.Gen.fold_max_bot _

/-- and their weights. -/
theorem v75_apply (x0 : Vec Ideal S16x4x4096 .bf16) (x1 : Vec Ideal S16x4x8x128 .bf16) (x3 : Vec Ideal S16x4096x8x128 .i8) (x4 : Vec Ideal S16x4096x8 .f32)
    (b : Fin 16) (h : Fin 8) (g s : Fin 4) (p : Fin 4100) :
    val_main_v75 (F := Ideal) x0 x1 x3 x4 (ix5 b h g s p)
      = Ideal.exp (scoreOf x0 x1 x3 x4 b h g s p - Finset.univ.sup (scoreOf x0 x1 x3 x4 b h g s)) := by
  rw [val_main_v75_apply, val_main_v74_apply, val_main_v73_apply, val_main_v72_apply, v70_apply, ← v71_apply]
  refine congrArg (fun a : EReal => Ideal.exp (scoreOf x0 x1 x3 x4 b h g s p - a)) (congrArg (val_main_v71 (F := Ideal) x0 x1 x3 x4) ?_)
  funext a; fin_cases a <;> rfl

/-- The outputs: query head `n` reads key and value head `n / 4`. -/
theorem v84_apply (x0 : Vec Ideal S16x4x4096 .bf16) (x1 x2 : Vec Ideal S16x4x8x128 .bf16) (x3 : Vec Ideal S16x4096x8x128 .i8) (x4 : Vec Ideal S16x4096x8 .f32)
    (x5 : Vec Ideal S16x4096x8x128 .i8) (x6 : Vec Ideal S16x4096x8 .f32) (b : Fin 16) (s : Fin 4) (n : Fin 32) (d : Fin 128) :
    val_main_v84 (F := Ideal) x0 x1 x2 x3 x4 x5 x6 (ix4 b s n d)
      = attendAll (scoreOf x0 x1 x3 x4 b ⟨n.val / 4, by omega⟩ ⟨n.val % 4, by omega⟩ s) fun p => elt x2 x5 x6 b p ⟨n.val / 4, by omega⟩ d := by
  have e : val_main_v81 (F := Ideal) x0 x1 x2 x3 x4 x5 x6 (ix5 b (⟨n.val / 4, by omega⟩ : Fin 8) (⟨n.val % 4, by omega⟩ : Fin 4) s d)
      = attendAll (scoreOf x0 x1 x3 x4 b ⟨n.val / 4, by omega⟩ ⟨n.val % 4, by omega⟩ s) fun p => elt x2 x5 x6 b p ⟨n.val / 4, by omega⟩ d := by
    rw [val_main_v81_apply, val_main_v80_apply, val_main_v77_apply, val_main_v76_apply, val_main_v79_apply]
    unfold attendAll
    refine congrArg₂ Ideal.div (Finset.sum_congr rfl fun p _ => ?_) ?_
    · refine congrArg₂ (fun a b : EReal => a * b) ((congrArg (val_main_v75 (F := Ideal) x0 x1 x3 x4) ?_).trans (v75_apply x0 x1 x3 x4 b _ _ s p))
        ((congrArg (val_main_v59 (F := Ideal) x2 x5 x6) ?_).trans (v59_apply x2 x5 x6 b p _ d))
      · funext a; fin_cases a <;> rfl
      · funext a; fin_cases a <;> rfl
    · refine Eq.trans (congrArg₂ (fun a b : EReal => a + b) (x' := 0) ?_ (Finset.sum_congr rfl fun p _ => (congrArg (val_main_v75 (F := Ideal) x0 x1 x3 x4) ?_).trans (v75_apply x0 x1 x3 x4 b _ _ s p))) (zero_add _)
      · show Ideal.ofBits .f32 0x00000000#32 = 0
        simp [Ideal.ofBits, Ideal.ieee]
      · funext a; fin_cases a <;> rfl
  refine Eq.trans ?_ e
  have e' : val_main_v83 (F := Ideal) x0 x1 x2 x3 x4 x5 x6 (ix4 b s n d)
      = val_main_v82 (F := Ideal) x0 x1 x2 x3 x4 x5 x6 (ix5 b s (⟨n.val / 4, by omega⟩ : Fin 8) (⟨n.val % 4, by omega⟩ : Fin 4) d) := by
    unfold val_main_v83
    generalize val_main_v82 (F := Ideal) x0 x1 x2 x3 x4 x5 x6 = y
    pointwise
  rw [val_main_v84_apply, e', val_main_v82_apply]
  refine congrArg (val_main_v81 (F := Ideal) x0 x1 x2 x3 x4 x5 x6) ?_
  funext a; fin_cases a <;> rfl

end Cert.Value

end
-- ==== Proof.Value.Outputs.lean ====
/- The attention outputs: the array the kernel leaves is the reference's. At output row `64 Q + 16 s + i` of a batch entry
   the kernel's scores and values, over wide rows of four heads interleaved, are the reference's at token `s` and query
   head `16 Q + i`. -/
module

public import proofs.«01_k».proof.Proof.Value.Codes
public import proofs.«01_k».proof.Proof.Value.Reference

@[expose] public section

set_option maxRecDepth 16384

noncomputable section

namespace Cert.Value

open Idealize.ShloMosaic Idealize.ShloMosaic.TcCoe Idealize.SL.Sem
open Idealize.ShloMosaic.Pipeline (Dat)
open Cert.KernelIdeal Cert.KernelIdeal.Gen

/-! ## A wide row -/

/-- A sum over a wide row whose terms vanish outside one head is over that head's elements. -/
theorem sum_wide (f : Fin 512 → EReal) (k : Fin 4) (hf : ∀ w : Fin 512, w.val % 4 ≠ k.val → f w = 0) :
    ∑ w, f w = ∑ d : Fin 128, f ⟨4 * d.val + k.val, by omega⟩ := by
  rw [← Equiv.sum_comp (finProdFinEquiv : Fin 128 × Fin 4 ≃ Fin 512), Fintype.sum_prod_type]
  refine Finset.sum_congr rfl fun d _ => ?_
  refine (Finset.sum_eq_single k (fun e _ he => hf _ ?_) (fun hn => absurd (Finset.mem_univ k) hn)).trans (congrArg f (Fin.ext ?_))
  · show (e.val + 4 * d.val) % 4 ≠ k.val
    have := Fin.val_ne_of_ne he
    omega
  · show k.val + 4 * d.val = 4 * d.val + k.val
    omega

/-! ## Elements by position -/

theorem elt_old (b : Fin 16) (x : Vec Ideal S16x4x8x128 .bf16) (codes : Vec Ideal S16x4096x8x128 .i8) (scales : Vec Ideal S16x4096x8 .f32) (p : Fin 4096) (h : Fin 8) (d : Fin 128) :
    elt x codes scales b (old p) h d = oldElt codes scales b p h d := dif_pos p.isLt

theorem elt_new (b : Fin 16) (x : Vec Ideal S16x4x8x128 .bf16) (codes : Vec Ideal S16x4096x8x128 .i8) (scales : Vec Ideal S16x4096x8 .f32) (j : Fin 4) (h : Fin 8) (d : Fin 128) :
    elt x codes scales b (new j) h d = newElt x b j h d := by
  refine (dif_neg (show ¬ 4096 + j.val < 4096 by omega)).trans (congrArg (fun j => newElt x b j h d) (Fin.ext ?_))
  show 4096 + j.val - 4096 = j.val
  omega

/-- What a grid point leaves: the first quad's block in heads 0 to 15, the second's in 16 to 31. -/
theorem outY_apply (a0 : Vec Ideal S1x2x64x512 .bf16) (a1 : Vec Ideal S1x128x128 .bf16) (a2 : Vec Ideal S1x32x128 .bf16) (a3 : Vec Ideal S1x32x128 .bf16) (a4 : Vec Ideal S1x32768x128 .i8) (a5 : Vec Ideal S1x8x4096 .f32) (a6 : Vec Ideal S1x32768x128 .i8) (a7 : Vec Ideal S1x8x4096 .f32)
    (G : S1x4x32x128.Idx → EReal)
    (h0 : ∀ (s : Fin 4) (i : Fin 16) (d : Fin 128), yBlk0 a0 a1 a2 a3 a4 a5 a6 a7 (ix4 (0 : Fin 1) s i d) = G (ix4 (0 : Fin 1) s (⟨i.val, by omega⟩ : Fin 32) d))
    (h1 : ∀ (s : Fin 4) (i : Fin 16) (d : Fin 128), yBlk1 a0 a1 a2 a3 a4 a5 a6 a7 (ix4 (0 : Fin 1) s i d) = G (ix4 (0 : Fin 1) s (⟨16 + i.val, by omega⟩ : Fin 32) d))
    (y : S1x4x32x128.Idx) : outY a0 a1 a2 a3 a4 a5 a6 a7 y = G y := by
  unfold outY yPieces
  frame_out
  canon_tiles x e
  · have hx : x = ix4 (0 : Fin 1) (⟨(x 1).val, x1_lt⟩ : Fin 4) (⟨(x 2).val, x2_lt⟩ : Fin 16) (⟨(x 3).val, x3_lt⟩ : Fin 128) := by blk_ext
    refine (congrArg (yBlk1 a0 a1 a2 a3 a4 a5 a6 a7) hx).trans ((h1 _ _ _).trans (congrArg G ?_))
    blk_ext
  · have hx : x = ix4 (0 : Fin 1) (⟨(x 1).val, x1_lt⟩ : Fin 4) (⟨(x 2).val, x2_lt⟩ : Fin 16) (⟨(x 3).val, x3_lt⟩ : Fin 128) := by blk_ext
    refine (congrArg (yBlk0 a0 a1 a2 a3 a4 a5 a6 a7) hx).trans ((h0 _ _ _).trans (congrArg G ?_))
    blk_ext

variable (m : (ℓ : Loc nD τ sig) → Buf (Elt Ideal) ℓ) (c : Dev nD) (t : Fin cfg0.N)

/-! ## A grid point's blocks -/

abbrev B0 : Vec Ideal S1x2x64x512 .bf16 := iblk m c 0 t
abbrev B1 : Vec Ideal S1x128x128 .bf16 := iblk m c 1 t
abbrev B2 : Vec Ideal S1x32x128 .bf16 := iblk m c 2 t
abbrev B3 : Vec Ideal S1x32x128 .bf16 := iblk m c 3 t
abbrev B4 : Vec Ideal S1x32768x128 .i8 := iblk m c 4 t
abbrev B5 : Vec Ideal S1x8x4096 .f32 := iblk m c 5 t
abbrev B6 : Vec Ideal S1x32768x128 .i8 := iblk m c 6 t
abbrev B7 : Vec Ideal S1x8x4096 .f32 := iblk m c 7 t

variable (b : Fin 16) (hb : b.val = t.val)
include hb

theorem cached_key (h : Fin 8) (p : Fin 4096) (d : Fin 128) :
    cached (B4 m c t) (B5 m c t) h p d = oldElt (argKC m c) (argKS m c) b p h d := by
  unfold cached oldElt
  exact congrArg₂ (fun a b : EReal => a * b) (congrArg (fun v : BitVec 8 => ((v.toInt : ℝ) : EReal)) (blk4 m c t b hb p h d)) (blk5 m c t b hb p h)

theorem cached_value (h : Fin 8) (p : Fin 4096) (d : Fin 128) :
    cached (B6 m c t) (B7 m c t) h p d = oldElt (argVC m c) (argVS m c) b p h d := by
  unfold cached oldElt
  exact congrArg₂ (fun a b : EReal => a * b) (congrArg (fun v : BitVec 8 => ((v.toInt : ℝ) : EReal)) (blk6 m c t b hb p h d)) (blk7 m c t b hb p h)

theorem fresh_key (j : Fin 4) (e : Fin 8) (d : Fin 128) : fresh (B2 m c t) (newRow j e) d = newElt (argK m c) b j e d := by
  have h : (fun d => B2 m c t (ix3 (0 : Fin 1) (newRow j e) d)) = fun d => argK m c (ix4 b j e d) := funext fun d => by
    refine (blk2 m c t b hb (newRow j e) d).trans (congrArg₂ (fun (j : Fin 4) (e : Fin 8) => argK m c (ix4 b j e d)) (Fin.ext ?_) (Fin.ext ?_))
    · show (8 * j.val + e.val) / 8 = j.val
      omega
    · show (8 * j.val + e.val) % 8 = e.val
      omega
  rw [fresh_row, h]
  rfl

theorem fresh_value (j : Fin 4) (e : Fin 8) (d : Fin 128) : fresh (B3 m c t) (newRow j e) d = newElt (argV m c) b j e d := by
  have h : (fun d => B3 m c t (ix3 (0 : Fin 1) (newRow j e) d)) = fun d => argV m c (ix4 b j e d) := funext fun d => by
    refine (blk3 m c t b hb (newRow j e) d).trans (congrArg₂ (fun (j : Fin 4) (e : Fin 8) => argV m c (ix4 b j e d)) (Fin.ext ?_) (Fin.ext ?_))
    · show (8 * j.val + e.val) / 8 = j.val
      omega
    · show (8 * j.val + e.val) % 8 = e.val
      omega
  rw [fresh_row, h]
  rfl

/-! ## Scores -/

/-- A score against a cached position: of the wide row's four heads only the query's own is not zero. -/
theorem score_old (Q : Fin 2) (s : Fin 4) (i : Fin 16) (p : Fin 4096) :
    (∑ w : Fin 512, B0 m c t (ix4 (0 : Fin 1) Q (⟨s.val * 16 + i.val, by omega⟩ : Fin 64) w) * cached (B4 m c t) (B5 m c t) ⟨4 * Q.val + w.val % 4, by omega⟩ p ⟨w.val / 4, by omega⟩) * Ideal.ofBits .f32 0x3DB504F3#32
      = scoreOf (argX m c) (argK m c) (argKC m c) (argKS m c) b ⟨4 * Q.val + i.val / 4, by omega⟩ ⟨i.val % 4, by omega⟩ s (old p) := by
  unfold scoreOf
  rw [if_pos (show (old p).val ≤ 4096 + s.val by show p.val ≤ 4096 + s.val; omega)]
  refine congrArg (fun a : EReal => a * Ideal.ofBits .f32 0x3DB504F3#32) ?_
  refine (sum_wide _ ⟨i.val / 4, by omega⟩ fun w hw => ?_).trans (Finset.sum_congr rfl fun d _ => ?_)
  · refine (congrArg (fun a : EReal => a * _) (blk0 m c t b hb Q _ w)).trans ?_
    rw [if_neg (show ¬ (s.val * 16 + i.val) % 16 / 4 = w.val % 4 from fun h => hw (by show w.val % 4 = i.val / 4; omega)), mul_zero, zero_mul]
  · refine (congrArg₂ (fun a b : EReal => a * b) (blk0 m c t b hb Q _ _) (cached_key m c t b hb _ p _)).trans ?_
    rw [if_pos (show (s.val * 16 + i.val) % 16 / 4 = (4 * d.val + i.val / 4) % 4 by omega), mul_one, mul_comm, elt_old b]
    refine congrArg₂ (fun a b : EReal => a * b) ?_ ?_
    · refine congrArg₂ (fun (h : Fin 8) (d : Fin 128) => oldElt (argKC m c) (argKS m c) b p h d) (Fin.ext ?_) (Fin.ext ?_)
      · show 4 * Q.val + (4 * d.val + i.val / 4) % 4 = 4 * Q.val + i.val / 4
        omega
      · show (4 * d.val + i.val / 4) / 4 = d.val
        omega
    · refine congrArg₂ (fun (s : Fin 4) (n : Fin 4096) => argX m c (ix3 b s n)) (Fin.ext ?_) (Fin.ext ?_)
      · show (s.val * 16 + i.val) / 16 = s.val
        omega
      · show (16 * Q.val + (s.val * 16 + i.val) % 16) * 128 + (4 * d.val + i.val / 4) / 4 = (4 * (4 * Q.val + i.val / 4) + i.val % 4) * 128 + d.val
        omega

/-- A score against a new row: masked unless the row is of the query's head and not after its token. -/
theorem score_new (Q : Fin 2) (s : Fin 4) (i : Fin 16) (j : Fin 4) (e : Fin 8) :
    newScores (B1 m c t) (B2 m c t) (ix2 (⟨64 * Q.val + (s.val * 16 + i.val), by omega⟩ : Fin 128) (newRow j e))
      = if e = ⟨4 * Q.val + i.val / 4, by omega⟩ then scoreOf (argX m c) (argK m c) (argKC m c) (argKS m c) b ⟨4 * Q.val + i.val / 4, by omega⟩ ⟨i.val % 4, by omega⟩ s (new j) else ⊥ := by
  rw [newScores_apply, neg_inf]
  have hk : keeps (⟨64 * Q.val + (s.val * 16 + i.val), by omega⟩ : Fin 128) (newRow j e) ↔ e = ⟨4 * Q.val + i.val / 4, by omega⟩ ∧ j.val ≤ s.val := by
    rw [Fin.ext_iff]
    show 4 * ((64 * Q.val + (s.val * 16 + i.val)) / 64) + (64 * Q.val + (s.val * 16 + i.val)) % 16 / 4 = (8 * j.val + e.val) % 8
        ∧ (8 * j.val + e.val) / 8 ≤ (64 * Q.val + (s.val * 16 + i.val)) % 64 / 16 ↔ e.val = 4 * Q.val + i.val / 4 ∧ j.val ≤ s.val
    omega
  by_cases he : e = ⟨4 * Q.val + i.val / 4, by omega⟩
  · rw [if_pos he]
    unfold scoreOf
    by_cases hj : j.val ≤ s.val
    · rw [if_pos (hk.mpr ⟨he, hj⟩), if_pos (show (new j).val ≤ 4096 + s.val by show 4096 + j.val ≤ 4096 + s.val; omega)]
      refine congrArg (fun a : EReal => a * Ideal.ofBits .f32 0x3DB504F3#32) (Finset.sum_congr rfl fun d _ => ?_)
      rw [mul_comm, fresh_key m c t b hb, elt_new b, he]
      refine congrArg₂ (fun a b : EReal => a * b) rfl ?_
      refine (blk1 m c t b hb Q ⟨s.val * 16 + i.val, by omega⟩ d).trans (congrArg₂ (fun (s : Fin 4) (n : Fin 4096) => argX m c (ix3 b s n)) (Fin.ext ?_) (Fin.ext ?_))
      · show (s.val * 16 + i.val) / 16 = s.val
        omega
      · show (16 * Q.val + (s.val * 16 + i.val) % 16) * 128 + d.val = (4 * (4 * Q.val + i.val / 4) + i.val % 4) * 128 + d.val
        omega
    · rw [if_neg (fun h => hj (hk.mp h).2), if_neg (show ¬ (new j).val ≤ 4096 + s.val by show ¬ 4096 + j.val ≤ 4096 + s.val; omega)]
  · rw [if_neg he, if_neg (fun h => he (hk.mp h).1)]

/-! ## The outputs -/

/-- An output of quad `Q`, -/
theorem attend_point (Q : Fin 2) (s : Fin 4) (i : Fin 16) (d : Fin 128) (sc : Fin 4096 → EReal) (vc : Fin 4096 → EReal)
    (hsc : ∀ p, sc p = (∑ w : Fin 512, B0 m c t (ix4 (0 : Fin 1) Q (⟨s.val * 16 + i.val, by omega⟩ : Fin 64) w) * cached (B4 m c t) (B5 m c t) ⟨4 * Q.val + w.val % 4, by omega⟩ p ⟨w.val / 4, by omega⟩) * Ideal.ofBits .f32 0x3DB504F3#32)
    (hvc : ∀ p, vc p = cached (B6 m c t) (B7 m c t) ⟨4 * Q.val + i.val / 4, by omega⟩ p d)
    (n : Fin 32) (hn : n.val = 16 * Q.val + i.val) :
    attend (fun e => newScores (B1 m c t) (B2 m c t) (ix2 (⟨64 * Q.val + (s.val * 16 + i.val), by omega⟩ : Fin 128) e)) sc (fun e => fresh (B3 m c t) e d) vc
      = Cert.ReferenceIdeal.Read.val_main_v84 (F := Ideal) (argX m c) (argK m c) (argV m c) (argKC m c) (argKS m c) (argVC m c) (argVS m c) (ix4 b s n d) := by
  have h1 : (⟨n.val / 4, by omega⟩ : Fin 8) = ⟨4 * Q.val + i.val / 4, by omega⟩ := Fin.ext (by show n.val / 4 = 4 * Q.val + i.val / 4; omega)
  have h2 : (⟨n.val % 4, by omega⟩ : Fin 4) = ⟨i.val % 4, by omega⟩ := Fin.ext (by show n.val % 4 = i.val % 4; omega)
  rw [v84_apply, h1, h2]
  refine attend_eq _ _ _ _ _ _ ⟨4 * Q.val + i.val / 4, by omega⟩ (fun p => ?_) (fun j e => ?_) (fun p => ?_) (fun j => ?_)
  · rw [hsc]; exact score_old m c t b hb Q s i p
  · exact score_new m c t b hb Q s i j e
  · rw [hvc, cached_value m c t b hb, elt_old b]
  · rw [elt_new b]; exact fresh_value m c t b hb j _ d

theorem point0 (s : Fin 4) (i : Fin 16) (d : Fin 128) (n : Fin 32) (hn : n.val = i.val) :
    yBlk0 (B0 m c t) (B1 m c t) (B2 m c t) (B3 m c t) (B4 m c t) (B5 m c t) (B6 m c t) (B7 m c t) (ix4 (0 : Fin 1) s i d)
      = Cert.ReferenceIdeal.Read.val_main_v84 (F := Ideal) (argX m c) (argK m c) (argV m c) (argKC m c) (argKS m c) (argVC m c) (argVS m c) (ix4 b s n d) := by
  have e (x : ℕ) (h : 4 * ((0 : Fin 2) : ℕ) + x < 8) : (⟨4 * ((0 : Fin 2) : ℕ) + x, h⟩ : Fin 8) = ⟨x, lt_of_le_of_lt (Nat.le_add_left _ _) h⟩ := Fin.ext (by show 4 * 0 + x = x; omega)
  rw [yBlk0_apply, ← attend_point m c t b hb 0 s i d (cachedScore0 (B0 m c t) (B4 m c t) (B5 m c t) ⟨s.val * 16 + i.val, by omega⟩) (fun p => cached (B6 m c t) (B7 m c t) ⟨i.val / 4, by omega⟩ p d)
    (fun p => by unfold cachedScore0; simp only [e]) (fun p => by rw [e]) n (by show n.val = 16 * 0 + i.val; omega)]
  refine congrArg (fun f => attend f _ _ _) (funext fun c' => congrArg (fun r : Fin 128 => newScores (B1 m c t) (B2 m c t) (ix2 r c')) (Fin.ext ?_))
  show s.val * 16 + i.val = 64 * 0 + (s.val * 16 + i.val)
  omega

theorem point1 (s : Fin 4) (i : Fin 16) (d : Fin 128) (n : Fin 32) (hn : n.val = 16 + i.val) :
    yBlk1 (B0 m c t) (B1 m c t) (B2 m c t) (B3 m c t) (B4 m c t) (B5 m c t) (B6 m c t) (B7 m c t) (ix4 (0 : Fin 1) s i d)
      = Cert.ReferenceIdeal.Read.val_main_v84 (F := Ideal) (argX m c) (argK m c) (argV m c) (argKC m c) (argKS m c) (argVC m c) (argVS m c) (ix4 b s n d) := by
  rw [yBlk1_apply]
  exact attend_point m c t b hb 1 s i d (cachedScore1 (B0 m c t) (B4 m c t) (B5 m c t) ⟨s.val * 16 + i.val, by omega⟩) (fun p => cached (B6 m c t) (B7 m c t) ⟨4 + i.val / 4, by omega⟩ p d)
    (fun p => rfl) (fun p => rfl) n hn

omit hb

/-- The attention outputs. -/
theorem final_y (m : (ℓ : Loc nD τ sig) → Buf (Elt Ideal) ℓ) (c : Dev nD) : (dats m 0 c).arrAt 8 (cfgs 0).N
    = Cert.ReferenceIdeal.Read.val_main_v84 (F := Ideal) (argX m c) (argK m c) (argV m c) (argKC m c) (argKS m c) (argVC m c) (argVS m c) := by
  refine (dats m 0 c).arrAt_eq_of_covers 8 _ (by decide +kernel) fun t _ y => ?_
  have ht : t.val < 16 := (idx t).1
  have e (s : Fin 4) (n : Fin 32) (d : Fin 128) : ((cfg0.win 8).blk t).view.emb (ix4 (0 : Fin 1) s n d) = ix4 (⟨t.val, ht⟩ : Fin 16) s n d := by
    blk_ext [idx t]
  blk_simp
  rw [after0_8]
  refine outY_apply (B0 m c t) (B1 m c t) (B2 m c t) (B3 m c t) (B4 m c t) (B5 m c t) (B6 m c t) (B7 m c t)
    (fun y : S1x4x32x128.Idx => Cert.ReferenceIdeal.Read.val_main_v84 (F := Ideal) (argX m c) (argK m c) (argV m c) (argKC m c) (argKS m c) (argVC m c) (argVS m c) (((cfg0.win 8).blk t).view.emb y)) ?_ ?_ y
  · intro s i d
    exact (point0 m c t ⟨t.val, ht⟩ rfl s i d ⟨i.val, by omega⟩ rfl).trans (congrArg _ (e s ⟨i.val, by omega⟩ d)).symm
  · intro s i d
    exact (point1 m c t ⟨t.val, ht⟩ rfl s i d ⟨16 + i.val, by omega⟩ rfl).trans (congrArg _ (e s ⟨16 + i.val, by omega⟩ d)).symm

end Cert.Value

end
-- ==== Proof.Value.Algebraic.lean ====
/- The equality of results: from arguments that agree, the idealized kernel and the reference end with the same five
   arrays. -/
module

public import proofs.«01_k».proof.Defs
public import proofs.«01_k».proof.Proof.Gen.ReferenceIdeal.Run
public import proofs.«01_k».proof.Proof.Gen.ReferenceIdeal.Read
public import proofs.«01_k».proof.Proof.Value.Outputs

@[expose] public section

set_option maxRecDepth 16384

noncomputable section

namespace Cert.Value

open Idealize.ShloMosaic Idealize.ShloMosaic.TcCoe Idealize.SL.Sem
open Cert.KernelIdeal Cert.KernelIdeal.Gen

/-- The kernel's run: each result array ends at what the pipeline computes for its window, every argument unchanged. -/
theorem run_kernel (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v21_0) = (dats m 0 c).arrAt 8 (cfgs 0).N
      ∧ r.2.mem ((c.tc : Thread nD τ).loc main_v21_1) = (dats m 0 c).arrAt 9 (cfgs 0).N
      ∧ r.2.mem ((c.tc : Thread nD τ).loc main_v21_2) = (dats m 0 c).arrAt 10 (cfgs 0).N
      ∧ r.2.mem ((c.tc : Thread nD τ).loc main_v21_3) = (dats m 0 c).arrAt 11 (cfgs 0).N
      ∧ r.2.mem ((c.tc : Thread nD τ).loc main_v21_4) = (dats m 0 c).arrAt 12 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  θ_run_mono (θ_run_and (run_main m g) (unchanged m g)) fun _ h c =>
    ⟨(h.1 c).1 8, (h.1 c).1 9, (h.1 c).1 10, (h.1 c).1 11, (h.1 c).1 12, h.2 c⟩

/-- From arguments that agree, the idealized kernel and the reference end with the same attention outputs, new key codes
    and scales, and new value codes and scales, and leave their arguments unchanged. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => (dats m 0 c).arrAt 8 (cfgs 0).N, fun c => (dats m 0 c).arrAt 9 (cfgs 0).N,
    fun c => (dats m 0 c).arrAt 10 (cfgs 0).N, fun c => (dats m 0 c).arrAt 11 (cfgs 0).N,
    fun c => (dats m 0 c).arrAt 12 (cfgs 0).N, run_kernel m g, ?_⟩
  refine θ_run_mono (Cert.ReferenceIdeal.Value.run (F := Ideal) m' g') fun r h c => ?_
  obtain ⟨e0, e1, e2, e3, e4, e5, e6⟩ := hagree c
  obtain ⟨h0, h1, h2, h3, h4, h5⟩ := h c
  refine ⟨h0.trans ?_, h1.trans ?_, h2.trans ?_, h3.trans ?_, h4.trans ?_, h5⟩
  · refine (Cert.ReferenceIdeal.Read.val_main_v84_eq m' c).trans ?_
    rw [e0, e1, e2, e3, e4, e5, e6]
    exact (final_y m c).symm
  · refine (Cert.ReferenceIdeal.Read.val_main_v85_eq _).trans ?_
    rw [e1]
    exact (final_kCode m c).symm
  · refine (Cert.ReferenceIdeal.Read.val_main_v86_eq _).trans ?_
    rw [e1]
    exact (final_kScale m c).symm
  · refine (Cert.ReferenceIdeal.Read.val_main_v87_eq _).trans ?_
    rw [e2]
    exact (final_vCode m c).symm
  · refine (Cert.ReferenceIdeal.Read.val_main_v88_eq _).trans ?_
    rw [e2]
    exact (final_vScale m c).symm

end Cert.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Frame
public import proofs.«01_k».proof.Proof.KernelIdeal.Frame
public import proofs.«01_k».proof.Proof.Value.Algebraic
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference's frame: every execution ends with the arguments unchanged and every counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial,
  Cert.Value.algebraic⟩

end Cert.Proof

end
